-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v56) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v22_0)) (v1 : (c : Dev Cert.Kernel3Ideal.nD) → Buf (Elt Ideal) ((c.tc : Thread Cert.Kernel3Ideal.nD Cert.Kernel3Ideal.τ).loc Cert.Kernel3Ideal.main_v22_1)) (v2 : (c : Dev Cert.Kernel3Ideal.nD) → Buf (Elt Ideal) ((c.tc : Thread Cert.Kernel3Ideal.nD Cert.Kernel3Ideal.τ).loc Cert.Kernel3Ideal.main_v22_2)) (v3 : (c : Dev Cert.Kernel3Ideal.nD) → Buf (Elt Ideal) ((c.tc : Thread Cert.Kernel3Ideal.nD Cert.Kernel3Ideal.τ).loc Cert.Kernel3Ideal.main_v22_3)) (v4 : (c : Dev Cert.Kernel3Ideal.nD) → Buf (Elt Ideal) ((c.tc : Thread Cert.Kernel3Ideal.nD Cert.Kernel3Ideal.τ).loc Cert.Kernel3Ideal.main_v22_4)) (v5 : (c : Dev Cert.Kernel3Ideal.nD) → Buf (Elt Ideal) ((c.tc : Thread Cert.Kernel3Ideal.nD Cert.Kernel3Ideal.τ).loc Cert.Kernel3Ideal.main_v22_5)) (v6 : (c : Dev Cert.Kernel3Ideal.nD) → Buf (Elt Ideal) ((c.tc : Thread Cert.Kernel3Ideal.nD Cert.Kernel3Ideal.τ).loc Cert.Kernel3Ideal.main_v22_6)) (v7 : (c : Dev Cert.Kernel3Ideal.nD) → Buf (Elt Ideal) ((c.tc : Thread Cert.Kernel3Ideal.nD Cert.Kernel3Ideal.τ).loc Cert.Kernel3Ideal.main_v22_7)) (v8 : (c : Dev Cert.Kernel3Ideal.nD) → Buf (Elt Ideal) ((c.tc : Thread Cert.Kernel3Ideal.nD Cert.Kernel3Ideal.τ).loc Cert.Kernel3Ideal.main_v22_8)) (v9 : (c : Dev Cert.Kernel3Ideal.nD) → Buf (Elt Ideal) ((c.tc : Thread Cert.Kernel3Ideal.nD Cert.Kernel3Ideal.τ).loc Cert.Kernel3Ideal.main_v22_9)) (v10 : (c : Dev Cert.Kernel3Ideal.nD) → Buf (Elt Ideal) ((c.tc : Thread Cert.Kernel3Ideal.nD Cert.Kernel3Ideal.τ).loc Cert.Kernel3Ideal.main_v22_10)) (v11 : (c : Dev Cert.Kernel3Ideal.nD) → Buf (Elt Ideal) ((c.tc : Thread Cert.Kernel3Ideal.nD Cert.Kernel3Ideal.τ).loc Cert.Kernel3Ideal.main_v22_11)) (v12 : (c : Dev Cert.Kernel3Ideal.nD) → Buf (Elt Ideal) ((c.tc : Thread Cert.Kernel3Ideal.nD Cert.Kernel3Ideal.τ).loc Cert.Kernel3Ideal.main_v22_12)) (v13 : (c : Dev Cert.Kernel3Ideal.nD) → Buf (Elt Ideal) ((c.tc : Thread Cert.Kernel3Ideal.nD Cert.Kernel3Ideal.τ).loc Cert.Kernel3Ideal.main_v22_13)) (v14 : (c : Dev Cert.Kernel3Ideal.nD) → Buf (Elt Ideal) ((c.tc : Thread Cert.Kernel3Ideal.nD Cert.Kernel3Ideal.τ).loc Cert.Kernel3Ideal.main_v22_14)) (v15 : (c : Dev Cert.Kernel3Ideal.nD) → Buf (Elt Ideal) ((c.tc : Thread Cert.Kernel3Ideal.nD Cert.Kernel3Ideal.τ).loc Cert.Kernel3Ideal.main_v22_15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22_0) = v0 c
          ∧ r.2.mem ((c.tc : Thread Cert.Kernel3Ideal.nD Cert.Kernel3Ideal.τ).loc Cert.Kernel3Ideal.main_v22_1) = v1 c
          ∧ r.2.mem ((c.tc : Thread Cert.Kernel3Ideal.nD Cert.Kernel3Ideal.τ).loc Cert.Kernel3Ideal.main_v22_2) = v2 c
          ∧ r.2.mem ((c.tc : Thread Cert.Kernel3Ideal.nD Cert.Kernel3Ideal.τ).loc Cert.Kernel3Ideal.main_v22_3) = v3 c
          ∧ r.2.mem ((c.tc : Thread Cert.Kernel3Ideal.nD Cert.Kernel3Ideal.τ).loc Cert.Kernel3Ideal.main_v22_4) = v4 c
          ∧ r.2.mem ((c.tc : Thread Cert.Kernel3Ideal.nD Cert.Kernel3Ideal.τ).loc Cert.Kernel3Ideal.main_v22_5) = v5 c
          ∧ r.2.mem ((c.tc : Thread Cert.Kernel3Ideal.nD Cert.Kernel3Ideal.τ).loc Cert.Kernel3Ideal.main_v22_6) = v6 c
          ∧ r.2.mem ((c.tc : Thread Cert.Kernel3Ideal.nD Cert.Kernel3Ideal.τ).loc Cert.Kernel3Ideal.main_v22_7) = v7 c
          ∧ r.2.mem ((c.tc : Thread Cert.Kernel3Ideal.nD Cert.Kernel3Ideal.τ).loc Cert.Kernel3Ideal.main_v22_8) = v8 c
          ∧ r.2.mem ((c.tc : Thread Cert.Kernel3Ideal.nD Cert.Kernel3Ideal.τ).loc Cert.Kernel3Ideal.main_v22_9) = v9 c
          ∧ r.2.mem ((c.tc : Thread Cert.Kernel3Ideal.nD Cert.Kernel3Ideal.τ).loc Cert.Kernel3Ideal.main_v22_10) = v10 c
          ∧ r.2.mem ((c.tc : Thread Cert.Kernel3Ideal.nD Cert.Kernel3Ideal.τ).loc Cert.Kernel3Ideal.main_v22_11) = v11 c
          ∧ r.2.mem ((c.tc : Thread Cert.Kernel3Ideal.nD Cert.Kernel3Ideal.τ).loc Cert.Kernel3Ideal.main_v22_12) = v12 c
          ∧ r.2.mem ((c.tc : Thread Cert.Kernel3Ideal.nD Cert.Kernel3Ideal.τ).loc Cert.Kernel3Ideal.main_v22_13) = v13 c
          ∧ r.2.mem ((c.tc : Thread Cert.Kernel3Ideal.nD Cert.Kernel3Ideal.τ).loc Cert.Kernel3Ideal.main_v22_14) = v14 c
          ∧ r.2.mem ((c.tc : Thread Cert.Kernel3Ideal.nD Cert.Kernel3Ideal.τ).loc Cert.Kernel3Ideal.main_v22_15) = v15 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v117) = v0 c
          ∧ r.2.mem ((c.tc : Thread Cert.Reference3Ideal.nD Cert.Reference3Ideal.τ).loc Cert.Reference3Ideal.main_v15) = v1 c
          ∧ r.2.mem ((c.tc : Thread Cert.Reference3Ideal.nD Cert.Reference3Ideal.τ).loc Cert.Reference3Ideal.main_v16) = v2 c
          ∧ r.2.mem ((c.tc : Thread Cert.Reference3Ideal.nD Cert.Reference3Ideal.τ).loc Cert.Reference3Ideal.main_v118) = v3 c
          ∧ r.2.mem ((c.tc : Thread Cert.Reference3Ideal.nD Cert.Reference3Ideal.τ).loc Cert.Reference3Ideal.main_v119) = v4 c
          ∧ r.2.mem ((c.tc : Thread Cert.Reference3Ideal.nD Cert.Reference3Ideal.τ).loc Cert.Reference3Ideal.main_v120) = v5 c
          ∧ r.2.mem ((c.tc : Thread Cert.Reference3Ideal.nD Cert.Reference3Ideal.τ).loc Cert.Reference3Ideal.main_v121) = v6 c
          ∧ r.2.mem ((c.tc : Thread Cert.Reference3Ideal.nD Cert.Reference3Ideal.τ).loc Cert.Reference3Ideal.main_v116) = v7 c
          ∧ r.2.mem ((c.tc : Thread Cert.Reference3Ideal.nD Cert.Reference3Ideal.τ).loc Cert.Reference3Ideal.main_v43) = v8 c
          ∧ r.2.mem ((c.tc : Thread Cert.Reference3Ideal.nD Cert.Reference3Ideal.τ).loc Cert.Reference3Ideal.main_v123) = v9 c
          ∧ r.2.mem ((c.tc : Thread Cert.Reference3Ideal.nD Cert.Reference3Ideal.τ).loc Cert.Reference3Ideal.main_v95) = v10 c
          ∧ r.2.mem ((c.tc : Thread Cert.Reference3Ideal.nD Cert.Reference3Ideal.τ).loc Cert.Reference3Ideal.main_v45) = v11 c
          ∧ r.2.mem ((c.tc : Thread Cert.Reference3Ideal.nD Cert.Reference3Ideal.τ).loc Cert.Reference3Ideal.main_v124) = v12 c
          ∧ r.2.mem ((c.tc : Thread Cert.Reference3Ideal.nD Cert.Reference3Ideal.τ).loc Cert.Reference3Ideal.main_v125) = v13 c
          ∧ r.2.mem ((c.tc : Thread Cert.Reference3Ideal.nD Cert.Reference3Ideal.τ).loc Cert.Reference3Ideal.main_v75) = v14 c
          ∧ r.2.mem ((c.tc : Thread Cert.Reference3Ideal.nD Cert.Reference3Ideal.τ).loc Cert.Reference3Ideal.main_v126) = v15 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel_KernelIdeal : Prop :=
  True

def Claim : Prop :=
  ∃ (hKernel2 : Cert.Kernel2.Facts) (hKernel2Ideal : Cert.Kernel2Ideal.Facts) (hReference2Ideal : Cert.Reference2Ideal.Facts) (hKernel3Ideal : Cert.Kernel3Ideal.Facts) (hReference3Ideal : Cert.Reference3Ideal.Facts) (hKernel : Cert.Kernel.Facts) (hKernelIdeal : Cert.KernelIdeal.Facts) (hReferenceIdeal : Cert.ReferenceIdeal.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3Ideal (hKernel3Ideal := hKernel3Ideal)
    ∧ quiescent_Reference3Ideal (hReference3Ideal := hReference3Ideal)
    ∧ quiescent_Kernel (hKernel := hKernel)
    ∧ quiescent_KernelIdeal (hKernelIdeal := hKernelIdeal)
    ∧ quiescent_ReferenceIdeal (hReferenceIdeal := hReferenceIdeal)
    ∧ preserves_Kernel2_Kernel2Ideal
    ∧ algebraic_Kernel2Ideal_Reference2Ideal (hKernel2Ideal := hKernel2Ideal) (hReference2Ideal := hReference2Ideal)
    ∧ algebraic_Kernel3Ideal_Reference3Ideal (hKernel3Ideal := hKernel3Ideal) (hReference3Ideal := hReference3Ideal)
    ∧ preserves_Kernel_KernelIdeal
-- ==== Kernel2.lean ====
abbrev S16x4096x1024 : Shape := ⟨3, ![16, 4096, 1024]⟩
abbrev S16x4096x512 : Shape := ⟨3, ![16, 4096, 512]⟩
abbrev S16x4096x256 : Shape := ⟨3, ![16, 4096, 256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S512x1024 : Shape := ⟨2, ![512, 1024]⟩
abbrev S2x4x64x1024 : Shape := ⟨4, ![2, 4, 64, 1024]⟩
abbrev S4x2x64x1024 : Shape := ⟨4, ![4, 2, 64, 1024]⟩
abbrev S1x1024 : Shape := ⟨2, ![1, 1024]⟩
abbrev S16x4096x2x4x64 : Shape := ⟨5, ![16, 4096, 2, 4, 64]⟩
abbrev S16x4096x4x2x64 : Shape := ⟨5, ![16, 4096, 4, 2, 64]⟩
abbrev S1x512x1024 : Shape := ⟨3, ![1, 512, 1024]⟩
abbrev S1x512x512 : Shape := ⟨3, ![1, 512, 512]⟩
abbrev S1x512x256 : Shape := ⟨3, ![1, 512, 256]⟩
abbrev S512x512 : Shape := ⟨2, ![512, 512]⟩
abbrev S512 : Shape := ⟨1, ![512]⟩
abbrev S512x1 : Shape := ⟨2, ![512, 1]⟩
abbrev S512x256 : Shape := ⟨2, ![512, 256]⟩

abbrev nBuf : Space → Nat
  | .hbm => 30
  | .vmem => 18
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .f32⟩
  | .hbm, ⟨2, _⟩ => ⟨S16x4096x512, .f32⟩
  | .hbm, ⟨3, _⟩ => ⟨S16x4096x256, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S1024x1024, .f32⟩
  | .hbm, ⟨11, _⟩ => ⟨S256x1024, .f32⟩
  | .hbm, ⟨12, _⟩ => ⟨S512x1024, .f32⟩
  | .hbm, ⟨13, _⟩ => ⟨S2x4x64x1024, .f32⟩
  | .hbm, ⟨14, _⟩ => ⟨S4x2x64x1024, .f32⟩
  | .hbm, ⟨15, _⟩ => ⟨S512x1024, .f32⟩
  | .hbm, ⟨16, _⟩ => ⟨S512x1024, .f32⟩
  | .hbm, ⟨17, _⟩ => ⟨S1024x1024, .f32⟩
  | .hbm, ⟨18, _⟩ => ⟨S1024x1024, .bf16⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1024x4096, .bf16⟩
  | .hbm, ⟨23, _⟩ => ⟨S4096x1024, .bf16⟩
  | .hbm, ⟨24, _⟩ => ⟨S1024x1024, .bf16⟩
  | .hbm, ⟨25, _⟩ => ⟨S256x1024, .bf16⟩
  | .hbm, ⟨26, _⟩ => ⟨S16x4096x2x4x64, .f32⟩
  | .hbm, ⟨27, _⟩ => ⟨S16x4096x4x2x64, .f32⟩
  | .hbm, ⟨28, _⟩ => ⟨S16x4096x512, .f32⟩
  | .hbm, ⟨29, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x256, .f32⟩
  | .local _ .vmem, ⟨7, _⟩ => ⟨S1x512x256, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x4096, .bf16⟩
  | .local _ .vmem, ⟨13, _⟩ => ⟨S4096x1024, .bf16⟩
  | .local _ .vmem, ⟨14, _⟩ => ⟨S1024x1024, .bf16⟩
  | .local _ .vmem, ⟨15, _⟩ => ⟨S256x1024, .bf16⟩
  | .local _ .vmem, ⟨16, _⟩ => ⟨S1x512x1024, .f32⟩
  | .local _ .vmem, ⟨17, _⟩ => ⟨S1x512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S16x4096x1024 : Shape := ⟨3, ![16, 4096, 1024]⟩
abbrev S16x4096x512 : Shape := ⟨3, ![16, 4096, 512]⟩
abbrev S16x4096x256 : Shape := ⟨3, ![16, 4096, 256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x4096 : Shape := ⟨3, ![16, 4096, 4096]⟩

abbrev nBuf : Space → Nat
  | .hbm => 82
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .f32⟩
  | .hbm, ⟨2, _⟩ => ⟨S16x4096x512, .f32⟩
  | .hbm, ⟨3, _⟩ => ⟨S16x4096x256, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S1024x1024, .f32⟩
  | .hbm, ⟨11, _⟩ => ⟨S256x1024, .f32⟩
  | .hbm, ⟨12, _⟩ => ⟨S16x4096x1024, .f32⟩
  | .hbm, ⟨13, _⟩ => ⟨S16x4096x1024, .f32⟩
  | .hbm, ⟨14, _⟩ => ⟨S16x4096x1024, .f32⟩
  | .hbm, ⟨15, _⟩ => ⟨S_, .f32⟩
  | .hbm, ⟨16, _⟩ => ⟨S16x4096, .f32⟩
  | .hbm, ⟨17, _⟩ => ⟨S16x4096x1, .f32⟩
  | .hbm, ⟨18, _⟩ => ⟨S_, .f32⟩
  | .hbm, ⟨19, _⟩ => ⟨S16x4096x1, .f32⟩
  | .hbm, ⟨20, _⟩ => ⟨S16x4096x1, .f32⟩
  | .hbm, ⟨21, _⟩ => ⟨S_, .f32⟩
  | .hbm, ⟨22, _⟩ => ⟨S16x4096x1, .f32⟩
  | .hbm, ⟨23, _⟩ => ⟨S16x4096x1, .f32⟩
  | .hbm, ⟨24, _⟩ => ⟨S16x4096x1, .f32⟩
  | .hbm, ⟨25, _⟩ => ⟨S16x4096x1024, .f32⟩
  | .hbm, ⟨26, _⟩ => ⟨S16x4096x1024, .f32⟩
  | .hbm, ⟨27, _⟩ => ⟨S1x1x1024, .f32⟩
  | .hbm, ⟨28, _⟩ => ⟨S16x4096x1024, .f32⟩
  | .hbm, ⟨29, _⟩ => ⟨S16x4096x1024, .f32⟩
  | .hbm, ⟨30, _⟩ => ⟨S16x4096x1024, .f32⟩
  | .hbm, ⟨31, _⟩ => ⟨S16x4096x1024, .f32⟩
  | .hbm, ⟨32, _⟩ => ⟨S_, .f32⟩
  | .hbm, ⟨33, _⟩ => ⟨S16x4096, .f32⟩
  | .hbm, ⟨34, _⟩ => ⟨S16x4096x1, .f32⟩
  | .hbm, ⟨35, _⟩ => ⟨S_, .f32⟩
  | .hbm, ⟨36, _⟩ => ⟨S16x4096x1, .f32⟩
  | .hbm, ⟨37, _⟩ => ⟨S16x4096x1, .f32⟩
  | .hbm, ⟨38, _⟩ => ⟨S_, .f32⟩
  | .hbm, ⟨39, _⟩ => ⟨S16x4096x1, .f32⟩
  | .hbm, ⟨40, _⟩ => ⟨S16x4096x1, .f32⟩
  | .hbm, ⟨41, _⟩ => ⟨S16x4096x1, .f32⟩
  | .hbm, ⟨42, _⟩ => ⟨S16x4096x1024, .f32⟩
  | .hbm, ⟨43, _⟩ => ⟨S16x4096x1024, .f32⟩
  | .hbm, ⟨44, _⟩ => ⟨S1x1x1024, .f32⟩
  | .hbm, ⟨45, _⟩ => ⟨S16x4096x1024, .f32⟩
  | .hbm, ⟨46, _⟩ => ⟨S16x4096x1024, .f32⟩
  | .hbm, ⟨47, _⟩ => ⟨S16x4096x4096, .f32⟩
  | .hbm, ⟨48, _⟩ => ⟨S_, .f32⟩
  | .hbm, ⟨49, _⟩ => ⟨S16x4096x4096, .f32⟩
  | .hbm, ⟨50, _⟩ => ⟨S16x4096x4096, .f32⟩
  | .hbm, ⟨51, _⟩ => ⟨S16x4096x4096, .f32⟩
  | .hbm, ⟨52, _⟩ => ⟨S16x4096x1024, .f32⟩
  | .hbm, ⟨53, _⟩ => ⟨S16x4096x1024, .f32⟩
  | .hbm, ⟨54, _⟩ => ⟨S_, .f32⟩
  | .hbm, ⟨55, _⟩ => ⟨S16x4096, .f32⟩
  | .hbm, ⟨56, _⟩ => ⟨S16x4096x1, .f32⟩
  | .hbm, ⟨57, _⟩ => ⟨S_, .f32⟩
  | .hbm, ⟨58, _⟩ => ⟨S16x4096x1, .f32⟩
  | .hbm, ⟨59, _⟩ => ⟨S16x4096x1, .f32⟩
  | .hbm, ⟨60, _⟩ => ⟨S_, .f32⟩
  | .hbm, ⟨61, _⟩ => ⟨S16x4096x1, .f32⟩
  | .hbm, ⟨62, _⟩ => ⟨S16x4096x1, .f32⟩
  | .hbm, ⟨63, _⟩ => ⟨S16x4096x1, .f32⟩
  | .hbm, ⟨64, _⟩ => ⟨S16x4096x1024, .f32⟩
  | .hbm, ⟨65, _⟩ => ⟨S16x4096x1024, .f32⟩
  | .hbm, ⟨66, _⟩ => ⟨S1x1x1024, .f32⟩
  | .hbm, ⟨67, _⟩ => ⟨S16x4096x1024, .f32⟩
  | .hbm, ⟨68, _⟩ => ⟨S16x4096x1024, .f32⟩
  | .hbm, ⟨69, _⟩ => ⟨S16x4096x1024, .f32⟩
  | .hbm, ⟨70, _⟩ => ⟨S16x4096x1024, .f32⟩
  | .hbm, ⟨71, _⟩ => ⟨S16x4096x1024, .f32⟩
  | .hbm, ⟨72, _⟩ => ⟨S16x4096x1024, .f32⟩
  | .hbm, ⟨73, _⟩ => ⟨S_, .f32⟩
  | .hbm, ⟨74, _⟩ => ⟨S16x4096x1024, .f32⟩
  | .hbm, ⟨75, _⟩ => ⟨S16x4096x1024, .f32⟩
  | .hbm, ⟨76, _⟩ => ⟨S_, .f32⟩
  | .hbm, ⟨77, _⟩ => ⟨S16x4096x1024, .f32⟩
  | .hbm, ⟨78, _⟩ => ⟨S16x4096x1024, .f32⟩
  | .hbm, ⟨79, _⟩ => ⟨S16x4096x1024, .f32⟩
  | .hbm, ⟨80, _⟩ => ⟨S16x4096x1024, .f32⟩
  | .hbm, ⟨81, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call0_cst : Ref sig .tc := ⟨.hbm, 48, rfl⟩
abbrev main_call0_v0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩

abbrev nD : Nat := 1
abbrev τ : Topo := Topo.v7x

variable {F : FTy → Type} [FloatOps F]
-- ==== Kernel3Ideal.lean ====
abbrev S16x4096x1024 : Shape := ⟨3, ![16, 4096, 1024]⟩
abbrev S1024 : Shape := ⟨1, ![1024]⟩
abbrev S1024x3096 : Shape := ⟨2, ![1024, 3096]⟩
abbrev S24 : Shape := ⟨1, ![24]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S512x512 : Shape := ⟨2, ![512, 512]⟩
abbrev S1024x24 : Shape := ⟨2, ![1024, 24]⟩
abbrev S_ : Shape := ⟨0, ![]⟩
abbrev S1024x128 : Shape := ⟨2, ![1024, 128]⟩
abbrev S1024x1280 : Shape := ⟨2, ![1024, 1280]⟩
abbrev S1024x1792 : Shape := ⟨2, ![1024, 1792]⟩
abbrev S1024x3200 : Shape := ⟨2, ![1024, 3200]⟩
abbrev S128 : Shape := ⟨1, ![128]⟩
abbrev S1x128 : Shape := ⟨2, ![1, 128]⟩
abbrev S1x1792 : Shape := ⟨2, ![1, 1792]⟩
abbrev S1x512 : Shape := ⟨2, ![1, 512]⟩
abbrev S1x1024 : Shape := ⟨2, ![1, 1024]⟩
abbrev S16x8x4096x128 : Shape := ⟨4, ![16, 8, 4096, 128]⟩
abbrev S16x4096x128 : Shape := ⟨3, ![16, 4096, 128]⟩
abbrev S16x4096x512 : Shape := ⟨3, ![16, 4096, 512]⟩
abbrev S1x512x1024 : Shape := ⟨3, ![1, 512, 1024]⟩
abbrev S1x8x512x128 : Shape := ⟨4, ![1, 8, 512, 128]⟩
abbrev S1x512x128 : Shape := ⟨3, ![1, 512, 128]⟩
abbrev S1x512x512 : Shape := ⟨3, ![1, 512, 512]⟩
abbrev S8x1792 : Shape := ⟨2, ![8, 1792]⟩
abbrev S512x1024 : Shape := ⟨2, ![512, 1024]⟩
abbrev S512x1 : Shape := ⟨2, ![512, 1]⟩
abbrev S512x1792 : Shape := ⟨2, ![512, 1792]⟩
abbrev S1024x512 : Shape := ⟨2, ![1024, 512]⟩
abbrev S512x128 : Shape := ⟨2, ![512, 128]⟩
abbrev S1x1x512x128 : Shape := ⟨4, ![1, 1, 512, 128]⟩
abbrev S1024x768 : Shape := ⟨2, ![1024, 768]⟩
abbrev S512x768 : Shape := ⟨2, ![512, 768]⟩

abbrev nBuf : Space → Nat
  | .hbm => 58
  | .vmem => 48
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x3096, .f32⟩
  | .hbm, ⟨3, _⟩ => ⟨S24, .f32⟩
  | .hbm, ⟨4, _⟩ => ⟨S1792, .f32⟩
  | .hbm, ⟨5, _⟩ => ⟨S512, .f32⟩
  | .hbm, ⟨6, _⟩ => ⟨S64x512, .f32⟩
  | .hbm, ⟨7, _⟩ => ⟨S512, .f32⟩
  | .hbm, ⟨8, _⟩ => ⟨S64x512, .f32⟩
  | .hbm, ⟨9, _⟩ => ⟨S128x512, .f32⟩
  | .hbm, ⟨10, _⟩ => ⟨S512, .f32⟩
  | .hbm, ⟨11, _⟩ => ⟨S512, .f32⟩
  | .hbm, ⟨12, _⟩ => ⟨S8x64, .f32⟩
  | .hbm, ⟨13, _⟩ => ⟨S512x512, .bf16⟩
  | .hbm, ⟨14, _⟩ => ⟨S1024x24, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x1280, .f32⟩
  | .hbm, ⟨19, _⟩ => ⟨S1024x1792, .f32⟩
  | .hbm, ⟨20, _⟩ => ⟨S1024x3200, .f32⟩
  | .hbm, ⟨21, _⟩ => ⟨S1024x3200, .bf16⟩
  | .hbm, ⟨22, _⟩ => ⟨S_, .i32⟩
  | .hbm, ⟨23, _⟩ => ⟨S_, .f32⟩
  | .hbm, ⟨24, _⟩ => ⟨S128, .f32⟩
  | .hbm, ⟨25, _⟩ => ⟨S1x128, .f32⟩
  | .hbm, ⟨26, _⟩ => ⟨S_, .f32⟩
  | .hbm, ⟨27, _⟩ => ⟨S64x512, .f32⟩
  | .hbm, ⟨28, _⟩ => ⟨S128x512, .f32⟩
  | .hbm, ⟨29, _⟩ => ⟨S128x512, .bf16⟩
  | .hbm, ⟨30, _⟩ => ⟨S_, .f32⟩
  | .hbm, ⟨31, _⟩ => ⟨S64x512, .f32⟩
  | .hbm, ⟨32, _⟩ => ⟨S128x512, .f32⟩
  | .hbm, ⟨33, _⟩ => ⟨S128x512, .bf16⟩
  | .hbm, ⟨34, _⟩ => ⟨S1x1792, .f32⟩
  | .hbm, ⟨35, _⟩ => ⟨S1x512, .f32⟩
  | .hbm, ⟨36, _⟩ => ⟨S1x512, .f32⟩
  | .hbm, ⟨37, _⟩ => ⟨S128x512, .bf16⟩
  | .hbm, ⟨38, _⟩ => ⟨S1x512, .f32⟩
  | .hbm, ⟨39, _⟩ => ⟨S1x512, .f32⟩
  | .hbm, ⟨40, _⟩ => ⟨S1x512, .f32⟩
  | .hbm, ⟨41, _⟩ => ⟨S1x1024, .f32⟩
  | .hbm, ⟨42, _⟩ => ⟨S16x8x4096x128, .bf16⟩
  | .hbm, ⟨43, _⟩ => ⟨S16x4096x128, .f32⟩
  | .hbm, ⟨44, _⟩ => ⟨S16x4096x128, .f32⟩
  | .hbm, ⟨45, _⟩ => ⟨S16x4096x128, .bf16⟩
  | .hbm, ⟨46, _⟩ => ⟨S16x4096x128, .bf16⟩
  | .hbm, ⟨47, _⟩ => ⟨S16x4096x128, .bf16⟩
  | .hbm, ⟨48, _⟩ => ⟨S16x4096x128, .bf16⟩
  | .hbm, ⟨49, _⟩ => ⟨S16x4096x128, .f32⟩
  | .hbm, ⟨50, _⟩ => ⟨S16x4096x512, .f32⟩
  | .hbm, ⟨51, _⟩ => ⟨S16x4096x512, .f32⟩
  | .hbm, ⟨52, _⟩ => ⟨S16x4096x512, .f32⟩
  | .hbm, ⟨53, _⟩ => ⟨S16x4096x512, .f32⟩
  | .hbm, ⟨54, _⟩ => ⟨S16x4096x512, .f32⟩
  | .hbm, ⟨55, _⟩ => ⟨S16x4096x512, .f32⟩
  | .hbm, ⟨56, _⟩ => ⟨S16x4096x512, .f32⟩
  | .hbm, ⟨57, _⟩ => ⟨S16x4096x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3200, .bf16⟩
  | .local _ .vmem, ⟨4, _⟩ => ⟨S1x128, .f32⟩
  | .local _ .vmem, ⟨5, _⟩ => ⟨S1x1792, .f32⟩
  | .local _ .vmem, ⟨6, _⟩ => ⟨S1x512, .f32⟩
  | .local _ .vmem, ⟨7, _⟩ => ⟨S128x512, .bf16⟩
  | .local _ .vmem, ⟨8, _⟩ => ⟨S1x512, .f32⟩
  | .local _ .vmem, ⟨9, _⟩ => ⟨S128x512, .bf16⟩
  | .local _ .vmem, ⟨10, _⟩ => ⟨S128x512, .bf16⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S512x512, .bf16⟩
  | .local _ .vmem, ⟨15, _⟩ => ⟨S1x8x512x128, .bf16⟩
  | .local _ .vmem, ⟨16, _⟩ => ⟨S1x8x512x128, .bf16⟩
  | .local _ .vmem, ⟨17, _⟩ => ⟨S1x512x128, .f32⟩
  | .local _ .vmem, ⟨18, _⟩ => ⟨S1x512x128, .f32⟩
  | .local _ .vmem, ⟨19, _⟩ => ⟨S1x512x128, .f32⟩
  | .local _ .vmem, ⟨20, _⟩ => ⟨S1x512x128, .f32⟩
  | .local _ .vmem, ⟨21, _⟩ => ⟨S1x512x128, .bf16⟩
  | .local _ .vmem, ⟨22, _⟩ => ⟨S1x512x128, .bf16⟩
  | .local _ .vmem, ⟨23, _⟩ => ⟨S1x512x128, .bf16⟩
  | .local _ .vmem, ⟨24, _⟩ => ⟨S1x512x128, .bf16⟩
  | .local _ .vmem, ⟨25, _⟩ => ⟨S1x512x128, .bf16⟩
  | .local _ .vmem, ⟨26, _⟩ => ⟨S1x512x128, .bf16⟩
  | .local _ .vmem, ⟨27, _⟩ => ⟨S1x512x128, .bf16⟩
  | .local _ .vmem, ⟨28, _⟩ => ⟨S1x512x128, .bf16⟩
  | .local _ .vmem, ⟨29, _⟩ => ⟨S1x512x128, .f32⟩
  | .local _ .vmem, ⟨30, _⟩ => ⟨S1x512x128, .f32⟩
  | .local _ .vmem, ⟨31, _⟩ => ⟨S1x512x512, .f32⟩
  | .local _ .vmem, ⟨32, _⟩ => ⟨S1x512x512, .f32⟩
  | .local _ .vmem, ⟨33, _⟩ => ⟨S1x512x512, .f32⟩
  | .local _ .vmem, ⟨34, _⟩ => ⟨S1x512x512, .f32⟩
  | .local _ .vmem, ⟨35, _⟩ => ⟨S1x512x512, .f32⟩
  | .local _ .vmem, ⟨36, _⟩ => ⟨S1x512x512, .f32⟩
  | .local _ .vmem, ⟨37, _⟩ => ⟨S1x512x512, .f32⟩
  | .local _ .vmem, ⟨38, _⟩ => ⟨S1x512x512, .f32⟩
  | .local _ .vmem, ⟨39, _⟩ => ⟨S1x512x512, .f32⟩
  | .local _ .vmem, ⟨40, _⟩ => ⟨S1x512x512, .f32⟩
  | .local _ .vmem, ⟨41, _⟩ => ⟨S1x512x512, .f32⟩
  | .local _ .vmem, ⟨42, _⟩ => ⟨S1x512x512, .f32⟩
  | .local _ .vmem, ⟨43, _⟩ => ⟨S1x512x512, .f32⟩
  | .local _ .vmem, ⟨44, _⟩ => ⟨S1x512x512, .f32⟩
  | .local _ .vmem, ⟨45, _⟩ => ⟨S1x512x512, .f32⟩
  | .local _ .vmem, ⟨46, _⟩ => ⟨S1x512x512, .f32⟩
  | .local _ .vmem, ⟨47, _⟩ => ⟨S8x1792, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_call1_v0 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22_0 : Ref sig .tc := ⟨.hbm, 42, rfl⟩
abbrev main_v22_1 : Ref sig .tc := ⟨.hbm, 43, rfl⟩
abbrev main_v22_2 : Ref sig .tc := ⟨.hbm, 44, rfl⟩
abbrev main_v22_3 : Ref sig .tc := ⟨.hbm, 45, rfl⟩
abbrev main_v22_4 : Ref sig .tc := ⟨.hbm, 46, rfl⟩
abbrev main_v22_5 : Ref sig .tc := ⟨.hbm, 47, rfl⟩
abbrev main_v22_6 : Ref sig .tc := ⟨.hbm, 48, rfl⟩
abbrev main_v22_7 : Ref sig .tc := ⟨.hbm, 49, rfl⟩
abbrev main_v22_8 : Ref sig .tc := ⟨.hbm, 50, rfl⟩
abbrev main_v22_9 : Ref sig .tc := ⟨.hbm, 51, rfl⟩
abbrev main_v22_10 : Ref sig .tc := ⟨.hbm, 52, rfl⟩
abbrev main_v22_11 : Ref sig .tc := ⟨.hbm, 53, rfl⟩
abbrev main_v22_12 : Ref sig .tc := ⟨.hbm, 54, rfl⟩
abbrev main_v22_13 : Ref sig .tc := ⟨.hbm, 55, rfl⟩
abbrev main_v22_14 : Ref sig .tc := ⟨.hbm, 56, rfl⟩
abbrev main_v22_15 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_stg23_0 : Ref sig .tc := ⟨.vmem, 33, rfl⟩
abbrev cc0_stg23_1 : Ref sig .tc := ⟨.vmem, 34, rfl⟩
abbrev cc0_stg24_0 : Ref sig .tc := ⟨.vmem, 35, rfl⟩
abbrev cc0_stg24_1 : Ref sig .tc := ⟨.vmem, 36, rfl⟩
abbrev cc0_stg25_0 : Ref sig .tc := ⟨.vmem, 37, rfl⟩
abbrev cc0_stg25_1 : Ref sig .tc := ⟨.vmem, 38, rfl⟩
abbrev cc0_stg26_0 : Ref sig .tc := ⟨.vmem, 39, rfl⟩
abbrev cc0_stg26_1 : Ref sig .tc := ⟨.vmem, 40, rfl⟩
abbrev cc0_stg27_0 : Ref sig .tc := ⟨.vmem, 41, rfl⟩
abbrev cc0_stg27_1 : Ref sig .tc := ⟨.vmem, 42, rfl⟩
abbrev cc0_stg28_0 : Ref sig .tc := ⟨.vmem, 43, rfl⟩
abbrev cc0_stg28_1 : Ref sig .tc := ⟨.vmem, 44, rfl⟩
abbrev cc0_stg29_0 : Ref sig .tc := ⟨.vmem, 45, rfl⟩
abbrev cc0_stg29_1 : Ref sig .tc := ⟨.vmem, 46, rfl⟩
abbrev cc0_scratch0 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32
abbrev cc0_sem23_0 : DmaSem sig := 33
abbrev cc0_sem23_1 : DmaSem sig := 34
abbrev cc0_sem24_0 : DmaSem sig := 35
abbrev cc0_sem24_1 : DmaSem sig := 36
abbrev cc0_sem25_0 : DmaSem sig := 37
abbrev cc0_sem25_1 : DmaSem sig := 38
abbrev cc0_sem26_0 : DmaSem sig := 39
abbrev cc0_sem26_1 : DmaSem sig := 40
abbrev cc0_sem27_0 : DmaSem sig := 41
abbrev cc0_sem27_1 : DmaSem sig := 42
abbrev cc0_sem28_0 : DmaSem sig := 43
abbrev cc0_sem28_1 : DmaSem sig := 44
abbrev cc0_sem29_0 : DmaSem sig := 45
abbrev cc0_sem29_1 : DmaSem sig := 46

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_27 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_28 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_29 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1792 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x8x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x512x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x512x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x512x512 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x512x512 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S1x512x512 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]

abbrev stage0_29 : Fin 2 → Memref sig .tc .vmem S1x512x512 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]
-- ==== Reference3Ideal.lean ====
abbrev S16x4096x1024 : Shape := ⟨3, ![16, 4096, 1024]⟩
abbrev S1024 : Shape := ⟨1, ![1024]⟩
abbrev S1024x3096 : Shape := ⟨2, ![1024, 3096]⟩
abbrev S24 : Shape := ⟨1, ![24]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x3096 : Shape := ⟨3, ![16, 4096, 3096]⟩
abbrev S16x4096x512 : Shape := ⟨3, ![16, 4096, 512]⟩
abbrev S16x4096x128 : Shape := ⟨3, ![16, 4096, 128]⟩
abbrev S16x4096x24 : Shape := ⟨3, ![16, 4096, 24]⟩
abbrev S1x1x24 : Shape := ⟨3, ![1, 1, 24]⟩
abbrev S16x4096x8x64 : Shape := ⟨4, ![16, 4096, 8, 64]⟩
abbrev S16x8x4096x64 : Shape := ⟨4, ![16, 8, 4096, 64]⟩
abbrev S16x4096x1792 : Shape := ⟨3, ![16, 4096, 1792]⟩
abbrev S16x4097x1792 : Shape := ⟨3, ![16, 4097, 1792]⟩
abbrev S1x1x1792 : Shape := ⟨3, ![1, 1, 1792]⟩
abbrev S16x4096x64 : Shape := ⟨3, ![16, 4096, 64]⟩
abbrev S1x1x512 : Shape := ⟨3, ![1, 1, 512]⟩
abbrev S16x4096x8 : Shape := ⟨3, ![16, 4096, 8]⟩
abbrev S16x4096x8x1 : Shape := ⟨4, ![16, 4096, 8, 1]⟩
abbrev S1x1x8x64 : Shape := ⟨4, ![1, 1, 8, 64]⟩
abbrev S16x4x4096x64 : Shape := ⟨4, ![16, 4, 4096, 64]⟩
abbrev S16x4x4096x128 : Shape := ⟨4, ![16, 4, 4096, 128]⟩
abbrev S16x8x4096x128 : Shape := ⟨4, ![16, 8, 4096, 128]⟩
abbrev S16x4096x104 : Shape := ⟨3, ![16, 4096, 104]⟩

abbrev nBuf : Space → Nat
  | .hbm => 173
  | .vmem => 0
  | .smem => 0
  | _ => 0

abbrev hbmTy0_0 (i : Nat) : BufTy := match i % 128 with
  | 0 => ⟨S16x4096x1024, .f32⟩
  | 1 => ⟨S1024, .f32⟩
  | 2 => ⟨S1024x3096, .f32⟩
  | 3 => ⟨S24, .f32⟩
  | 4 => ⟨S1792, .f32⟩
  | 5 => ⟨S512, .f32⟩
  | 6 => ⟨S64x512, .f32⟩
  | 7 => ⟨S512, .f32⟩
  | 8 => ⟨S64x512, .f32⟩
  | 9 => ⟨S128x512, .f32⟩
  | 10 => ⟨S512, .f32⟩
  | 11 => ⟨S512, .f32⟩
  | 12 => ⟨S8x64, .f32⟩
  | 13 => ⟨S16x4096x1024, .f32⟩
  | 14 => ⟨S_, .f32⟩
  | 15 => ⟨S16x4096, .f32⟩
  | 16 => ⟨S16x4096x1, .f32⟩
  | 17 => ⟨S_, .f32⟩
  | 18 => ⟨S16x4096x1, .f32⟩
  | 19 => ⟨S16x4096x1, .f32⟩
  | 20 => ⟨S_, .f32⟩
  | 21 => ⟨S16x4096x1, .f32⟩
  | 22 => ⟨S16x4096x1, .f32⟩
  | 23 => ⟨S16x4096x1, .f32⟩
  | 24 => ⟨S16x4096x1024, .f32⟩
  | 25 => ⟨S16x4096x1024, .f32⟩
  | 26 => ⟨S1x1x1024, .f32⟩
  | 27 => ⟨S16x4096x1024, .f32⟩
  | 28 => ⟨S16x4096x1024, .f32⟩
  | 29 => ⟨S16x4096x3096, .f32⟩
  | 30 => ⟨S16x4096x512, .f32⟩
  | 31 => ⟨S16x4096x128, .f32⟩
  | 32 => ⟨S16x4096x128, .f32⟩
  | 33 => ⟨S16x4096x128, .f32⟩
  | 34 => ⟨S16x4096x128, .f32⟩
  | 35 => ⟨S16x4096x128, .f32⟩
  | 36 => ⟨S16x4096x128, .f32⟩
  | 37 => ⟨S16x4096x24, .f32⟩
  | 38 => ⟨S1x1x24, .f32⟩
  | 39 => ⟨S16x4096x24, .f32⟩
  | 40 => ⟨S16x4096x24, .f32⟩
  | 41 => ⟨S16x4096x24, .f32⟩
  | 42 => ⟨S16x4096x24, .f32⟩
  | 43 => ⟨S_, .f32⟩
  | 44 => ⟨S16x4096x24, .f32⟩
  | 45 => ⟨S16x4096x24, .f32⟩
  | 46 => ⟨S_, .f32⟩
  | 47 => ⟨S16x4096x24, .f32⟩
  | 48 => ⟨S16x4096x24, .f32⟩
  | 49 => ⟨S16x4096x8x64, .f32⟩
  | 50 => ⟨S16x8x4096x64, .f32⟩
  | 51 => ⟨S_, .f32⟩
  | 52 => ⟨S16x8x4096x64, .f32⟩
  | 53 => ⟨S16x8x4096x64, .f32⟩
  | 54 => ⟨S16x4096x1792, .f32⟩
  | 55 => ⟨S_, .i32⟩
  | 56 => ⟨S_, .f32⟩
  | 57 => ⟨S16x4097x1792, .f32⟩
  | 58 => ⟨S16x4096x1792, .f32⟩
  | 59 => ⟨S16x4096x1792, .f32⟩
  | 60 => ⟨S1x1x1792, .f32⟩
  | 61 => ⟨S16x4096x1792, .f32⟩
  | 62 => ⟨S16x4096x1792, .f32⟩
  | 63 => ⟨S16x4096x1792, .f32⟩
  | 64 => ⟨S16x4096x512, .f32⟩
  | 65 => ⟨S16x4096x512, .f32⟩
  | 66 => ⟨S16x4096x512, .f32⟩
  | 67 => ⟨S16x4096x64, .f32⟩
  | 68 => ⟨S16x4096x64, .f32⟩
  | 69 => ⟨S16x4096x128, .f32⟩
  | 70 => ⟨S16x4096x64, .f32⟩
  | 71 => ⟨S16x4096x512, .f32⟩
  | 72 => ⟨S1x1x512, .f32⟩
  | 73 => ⟨S16x4096x512, .f32⟩
  | 74 => ⟨S16x4096x512, .f32⟩
  | 75 => ⟨S16x4096x512, .f32⟩
  | 76 => ⟨S_, .f32⟩
  | 77 => ⟨S16x4096x512, .f32⟩
  | 78 => ⟨S16x4096x512, .f32⟩
  | 79 => ⟨S16x4096x512, .f32⟩
  | 80 => ⟨S16x4096x512, .f32⟩
  | 81 => ⟨S16x4096x512, .i1⟩
  | 82 => ⟨S16x4096x512, .f32⟩
  | 83 => ⟨S16x4096x512, .f32⟩
  | 84 => ⟨S16x4096x512, .f32⟩
  | 85 => ⟨S16x4096x512, .f32⟩
  | 86 => ⟨S16x4096x512, .f32⟩
  | 87 => ⟨S16x4096x512, .f32⟩
  | 88 => ⟨S16x4096x512, .f32⟩
  | 89 => ⟨S16x4096x512, .f32⟩
  | 90 => ⟨S16x4096x512, .f32⟩
  | 91 => ⟨S_, .f32⟩
  | 92 => ⟨S16x4096x512, .f32⟩
  | 93 => ⟨S16x4096x512, .f32⟩
  | 94 => ⟨S16x4096x512, .f32⟩
  | 95 => ⟨S1x1x512, .f32⟩
  | 96 => ⟨S16x4096x512, .f32⟩
  | 97 => ⟨S16x4096x512, .f32⟩
  | 98 => ⟨S16x4096x512, .f32⟩
  | 99 => ⟨S16x4096x512, .f32⟩
  | 100 => ⟨S_, .f32⟩
  | 101 => ⟨S16x4096x512, .f32⟩
  | 102 => ⟨S16x4096x512, .f32⟩
  | 103 => ⟨S_, .f32⟩
  | 104 => ⟨S16x4096x512, .f32⟩
  | 105 => ⟨S16x4096x512, .f32⟩
  | 106 => ⟨S16x4096x128, .f32⟩
  | 107 => ⟨S16x4096x128, .f32⟩
  | 108 => ⟨S_, .f32⟩
  | 109 => ⟨S16x4096x128, .f32⟩
  | 110 => ⟨S16x4096x128, .f32⟩
  | 111 => ⟨S_, .f32⟩
  | 112 => ⟨S16x4096x128, .f32⟩
  | 113 => ⟨S16x4096x128, .f32⟩
  | 114 => ⟨S16x4096x512, .f32⟩
  | 115 => ⟨S1x1x512, .f32⟩
  | 116 => ⟨S16x4096x512, .f32⟩
  | 117 => ⟨S16x4096x512, .f32⟩
  | 118 => ⟨S16x4096x8x64, .f32⟩
  | 119 => ⟨S16x4096x8x64, .f32⟩
  | 120 => ⟨S_, .f32⟩
  | 121 => ⟨S16x4096x8, .f32⟩
  | 122 => ⟨S16x4096x8x1, .f32⟩
  | 123 => ⟨S_, .f32⟩
  | 124 => ⟨S16x4096x8x1, .f32⟩
  | 125 => ⟨S16x4096x8x1, .f32⟩
  | 126 => ⟨S16x4096x8x1, .f32⟩
  | 127 => ⟨S16x4096x8x64, .f32⟩
  | _ => ⟨S16x4096x1024, .f32⟩

abbrev hbmTy0_1 (i : Nat) : BufTy := match i % 128 with
  | 0 => ⟨S16x4096x8x64, .f32⟩
  | 1 => ⟨S_, .f32⟩
  | 2 => ⟨S16x4096x512, .f32⟩
  | 3 => ⟨S16x4096x512, .f32⟩
  | 4 => ⟨S1x1x512, .f32⟩
  | 5 => ⟨S16x4096x512, .f32⟩
  | 6 => ⟨S16x4096x512, .f32⟩
  | 7 => ⟨S_, .f32⟩
  | 8 => ⟨S16x4096x512, .f32⟩
  | 9 => ⟨S16x4096x512, .f32⟩
  | 10 => ⟨S16x4096x512, .f32⟩
  | 11 => ⟨S16x4096x8x64, .f32⟩
  | 12 => ⟨S16x4096x8x64, .f32⟩
  | 13 => ⟨S16x4096x8x64, .f32⟩
  | 14 => ⟨S16x4096x8x64, .f32⟩
  | 15 => ⟨S16x4096x8x64, .f32⟩
  | 16 => ⟨S1x1x8x64, .f32⟩
  | 17 => ⟨S16x4096x8x64, .f32⟩
  | 18 => ⟨S16x4096x8x64, .f32⟩
  | 19 => ⟨S_, .f32⟩
  | 20 => ⟨S16x4096x8, .f32⟩
  | 21 => ⟨S16x4096x8x1, .f32⟩
  | 22 => ⟨S16x4096x8x64, .f32⟩
  | 23 => ⟨S16x4096x8x64, .f32⟩
  | 24 => ⟨S16x4096x8x64, .f32⟩
  | 25 => ⟨S_, .f32⟩
  | 26 => ⟨S16x4x4096x64, .f32⟩
  | 27 => ⟨S16x4x4096x64, .f32⟩
  | 28 => ⟨S16x4x4096x128, .f32⟩
  | 29 => ⟨S16x4x4096x64, .f32⟩
  | 30 => ⟨S16x4x4096x128, .f32⟩
  | 31 => ⟨S16x8x4096x128, .f32⟩
  | 32 => ⟨S_, .f32⟩
  | 33 => ⟨S16x4096x104, .f32⟩
  | 34 => ⟨S16x4096x128, .f32⟩
  | 35 => ⟨S16x8x4096x128, .bf16⟩
  | 36 => ⟨S16x4096x128, .bf16⟩
  | 37 => ⟨S16x4096x128, .bf16⟩
  | 38 => ⟨S16x4096x128, .bf16⟩
  | 39 => ⟨S16x4096x128, .bf16⟩
  | 40 => ⟨S16x4096x512, .f32⟩
  | 41 => ⟨S16x4096x512, .f32⟩
  | 42 => ⟨S16x4096x512, .f32⟩
  | 43 => ⟨S16x4096x512, .f32⟩
  | 44 => ⟨S16x4096x512, .f32⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c : Ref sig .tc := ⟨.hbm, 55, rfl⟩
abbrev main_call0_v0 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_call1_cst : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_v6 : Ref sig .tc := ⟨.hbm, 83, rfl⟩
abbrev main_call1_v7 : Ref sig .tc := ⟨.hbm, 84, rfl⟩
abbrev main_call1_v8 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_v55 : Ref sig .tc := ⟨.hbm, 89, rfl⟩
abbrev main_v56 : Ref sig .tc := ⟨.hbm, 90, rfl⟩
abbrev main_cst_5 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_6 : Ref sig .tc := ⟨.hbm, 100, rfl⟩
abbrev main_v65 : Ref sig .tc := ⟨.hbm, 101, rfl⟩
abbrev main_v66 : Ref sig .tc := ⟨.hbm, 102, rfl⟩
abbrev main_cst_7 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_8 : Ref sig .tc := ⟨.hbm, 108, rfl⟩
abbrev main_v71 : Ref sig .tc := ⟨.hbm, 109, rfl⟩
abbrev main_v72 : Ref sig .tc := ⟨.hbm, 110, rfl⟩
abbrev main_cst_9 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_10 : Ref sig .tc := ⟨.hbm, 120, rfl⟩
abbrev main_v81 : Ref sig .tc := ⟨.hbm, 121, rfl⟩
abbrev main_v82 : Ref sig .tc := ⟨.hbm, 122, rfl⟩
abbrev main_cst_11 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_12 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_13 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst_14 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_15 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_cst_16 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩

abbrev nD : Nat := 1
abbrev τ : Topo := Topo.v7x

variable {F : FTy → Type} [FloatOps F]
-- ==== Kernel.lean ====
abbrev S16x4096x512 : Shape := ⟨3, ![16, 4096, 512]⟩
abbrev S512 : Shape := ⟨1, ![512]⟩
abbrev S1x512 : Shape := ⟨2, ![1, 512]⟩
abbrev S1x256x512 : Shape := ⟨3, ![1, 256, 512]⟩
abbrev S4x128x128 : Shape := ⟨3, ![4, 128, 128]⟩
abbrev S64x64 : Shape := ⟨2, ![64, 64]⟩
abbrev S64x128 : Shape := ⟨2, ![64, 128]⟩
abbrev S1x128 : Shape := ⟨2, ![1, 128]⟩
abbrev S128x128 : Shape := ⟨2, ![128, 128]⟩
abbrev S1x64x512 : Shape := ⟨3, ![1, 64, 512]⟩
abbrev S64x512 : Shape := ⟨2, ![64, 512]⟩
abbrev S256x128 : Shape := ⟨2, ![256, 128]⟩
abbrev S128x256 : Shape := ⟨2, ![128, 256]⟩
abbrev S64x256 : Shape := ⟨2, ![64, 256]⟩
abbrev S1x128x128 : Shape := ⟨3, ![1, 128, 128]⟩
abbrev S1024x128 : Shape := ⟨2, ![1024, 128]⟩
abbrev S1x64x128 : Shape := ⟨3, ![1, 64, 128]⟩

abbrev nBuf : Space → Nat
  | .hbm => 13
  | .vmem => 21
  | .smem => 0
  | _ => 0

abbrev bufTy : (tb : Table) → Fin (tcTables nBuf tb) → BufTy
  | .hbm, ⟨0, _⟩ => ⟨S16x4096x512, .f32⟩
  | .hbm, ⟨1, _⟩ => ⟨S16x4096x512, .f32⟩
  | .hbm, ⟨2, _⟩ => ⟨S16x4096x512, .f32⟩
  | .hbm, ⟨3, _⟩ => ⟨S16x4096x512, .f32⟩
  | .hbm, ⟨4, _⟩ => ⟨S16x4096x512, .f32⟩
  | .hbm, ⟨5, _⟩ => ⟨S16x4096x512, .f32⟩
  | .hbm, ⟨6, _⟩ => ⟨S16x4096x512, .f32⟩
  | .hbm, ⟨7, _⟩ => ⟨S16x4096x512, .f32⟩
  | .hbm, ⟨8, _⟩ => ⟨S512, .f32⟩
  | .hbm, ⟨9, _⟩ => ⟨S512, .f32⟩
  | .hbm, ⟨10, _⟩ => ⟨S1x512, .f32⟩
  | .hbm, ⟨11, _⟩ => ⟨S1x512, .f32⟩
  | .hbm, ⟨12, _⟩ => ⟨S16x4096x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x512, .f32⟩
  | .local _ .vmem, ⟨17, _⟩ => ⟨S1x512, .f32⟩
  | .local _ .vmem, ⟨18, _⟩ => ⟨S1x256x512, .f32⟩
  | .local _ .vmem, ⟨19, _⟩ => ⟨S1x256x512, .f32⟩
  | .local _ .vmem, ⟨20, _⟩ => ⟨S4x128x128, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S16x4096x512 : Shape := ⟨3, ![16, 4096, 512]⟩
abbrev S512 : Shape := ⟨1, ![512]⟩
abbrev S16x4096x8x64 : Shape := ⟨4, ![16, 4096, 8, 64]⟩
abbrev S4096x16x8x64 : Shape := ⟨4, ![4096, 16, 8, 64]⟩
abbrev S_ : Shape := ⟨0, ![]⟩
abbrev S16x8x64x64 : Shape := ⟨4, ![16, 8, 64, 64]⟩
abbrev S1x16x8x64 : Shape := ⟨4, ![1, 16, 8, 64]⟩
abbrev S16x8x64 : Shape := ⟨3, ![16, 8, 64]⟩
abbrev S16x8x1x64 : Shape := ⟨4, ![16, 8, 1, 64]⟩
abbrev S16x8x64x1 : Shape := ⟨4, ![16, 8, 64, 1]⟩
abbrev S16x4096x8 : Shape := ⟨3, ![16, 4096, 8]⟩
abbrev S16x4096x8x1 : Shape := ⟨4, ![16, 4096, 8, 1]⟩
abbrev S8x64 : Shape := ⟨2, ![8, 64]⟩
abbrev S1x1x8x64 : Shape := ⟨4, ![1, 1, 8, 64]⟩

abbrev nBuf : Space → Nat
  | .hbm => 130
  | .vmem => 0
  | .smem => 0
  | _ => 0

abbrev hbmTy0_0 (i : Nat) : BufTy := match i % 128 with
  | 0 => ⟨S16x4096x512, .f32⟩
  | 1 => ⟨S16x4096x512, .f32⟩
  | 2 => ⟨S16x4096x512, .f32⟩
  | 3 => ⟨S16x4096x512, .f32⟩
  | 4 => ⟨S16x4096x512, .f32⟩
  | 5 => ⟨S16x4096x512, .f32⟩
  | 6 => ⟨S16x4096x512, .f32⟩
  | 7 => ⟨S16x4096x512, .f32⟩
  | 8 => ⟨S512, .f32⟩
  | 9 => ⟨S512, .f32⟩
  | 10 => ⟨S16x4096x8x64, .f32⟩
  | 11 => ⟨S16x4096x8x64, .f32⟩
  | 12 => ⟨S16x4096x8x64, .f32⟩
  | 13 => ⟨S16x4096x8x64, .f32⟩
  | 14 => ⟨S16x4096x8x64, .f32⟩
  | 15 => ⟨S16x4096x8x64, .f32⟩
  | 16 => ⟨S16x4096x8x64, .f32⟩
  | 17 => ⟨S16x4096x8x64, .f32⟩
  | 18 => ⟨S4096x16x8x64, .f32⟩
  | 19 => ⟨S4096x16x8x64, .f32⟩
  | 20 => ⟨S4096x16x8x64, .f32⟩
  | 21 => ⟨S4096x16x8x64, .f32⟩
  | 22 => ⟨S4096x16x8x64, .f32⟩
  | 23 => ⟨S4096x16x8x64, .f32⟩
  | 24 => ⟨S_, .f32⟩
  | 25 => ⟨S16x8x64x64, .f32⟩
  | 26 => ⟨S_, .f32⟩
  | 27 => ⟨S4096x16x8x64, .f32⟩
  | 28 => ⟨S_, .i32⟩
  | 29 => ⟨S4096x16x8x64, .f32⟩
  | 30 => ⟨S4096x16x8x64, .f32⟩
  | 31 => ⟨S4096x16x8x64, .f32⟩
  | 32 => ⟨S4096x16x8x64, .f32⟩
  | 33 => ⟨S4096x16x8x64, .f32⟩
  | 34 => ⟨S4096x16x8x64, .f32⟩
  | 35 => ⟨S_, .i32⟩
  | 36 => ⟨S16x8x64x64, .f32⟩
  | 37 => ⟨S4096x16x8x64, .f32⟩
  | 38 => ⟨S_, .i32⟩
  | 39 => ⟨S_, .i1⟩
  | 40 => ⟨S_, .i32⟩
  | 41 => ⟨S_, .i32⟩
  | 42 => ⟨S_, .i32⟩
  | 43 => ⟨S1x16x8x64, .f32⟩
  | 44 => ⟨S16x8x64, .f32⟩
  | 45 => ⟨S_, .i32⟩
  | 46 => ⟨S_, .i32⟩
  | 47 => ⟨S_, .i32⟩
  | 48 => ⟨S1x16x8x64, .f32⟩
  | 49 => ⟨S16x8x64, .f32⟩
  | 50 => ⟨S_, .i32⟩
  | 51 => ⟨S_, .i32⟩
  | 52 => ⟨S_, .i32⟩
  | 53 => ⟨S1x16x8x64, .f32⟩
  | 54 => ⟨S16x8x64, .f32⟩
  | 55 => ⟨S_, .i32⟩
  | 56 => ⟨S_, .i32⟩
  | 57 => ⟨S_, .i32⟩
  | 58 => ⟨S1x16x8x64, .f32⟩
  | 59 => ⟨S16x8x64, .f32⟩
  | 60 => ⟨S_, .i32⟩
  | 61 => ⟨S_, .i32⟩
  | 62 => ⟨S_, .i32⟩
  | 63 => ⟨S1x16x8x64, .f32⟩
  | 64 => ⟨S16x8x64, .f32⟩
  | 65 => ⟨S_, .i32⟩
  | 66 => ⟨S_, .i32⟩
  | 67 => ⟨S_, .i32⟩
  | 68 => ⟨S1x16x8x64, .f32⟩
  | 69 => ⟨S16x8x64, .f32⟩
  | 70 => ⟨S16x8x64, .f32⟩
  | 71 => ⟨S16x8x1x64, .f32⟩
  | 72 => ⟨S16x8x64x64, .f32⟩
  | 73 => ⟨S16x8x64x64, .f32⟩
  | 74 => ⟨S16x8x64x1, .f32⟩
  | 75 => ⟨S16x8x1x64, .f32⟩
  | 76 => ⟨S16x8x64x64, .f32⟩
  | 77 => ⟨S16x8x64x64, .f32⟩
  | 78 => ⟨S16x8x64x64, .f32⟩
  | 79 => ⟨S16x8x64x64, .f32⟩
  | 80 => ⟨S16x8x64x1, .f32⟩
  | 81 => ⟨S16x8x1x64, .f32⟩
  | 82 => ⟨S16x8x64x64, .f32⟩
  | 83 => ⟨S16x8x64x64, .f32⟩
  | 84 => ⟨S16x8x64x64, .f32⟩
  | 85 => ⟨S16x8x64x64, .f32⟩
  | 86 => ⟨S16x8x64, .f32⟩
  | 87 => ⟨S1x16x8x64, .f32⟩
  | 88 => ⟨S_, .i32⟩
  | 89 => ⟨S_, .i32⟩
  | 90 => ⟨S_, .i32⟩
  | 91 => ⟨S4096x16x8x64, .f32⟩
  | 92 => ⟨S_, .i32⟩
  | 93 => ⟨S_, .i32⟩
  | 94 => ⟨S16x4096x8x64, .f32⟩
  | 95 => ⟨S_, .f32⟩
  | 96 => ⟨S16x4096x8, .f32⟩
  | 97 => ⟨S16x4096x8x1, .f32⟩
  | 98 => ⟨S_, .f32⟩
  | 99 => ⟨S16x4096x8x1, .f32⟩
  | 100 => ⟨S16x4096x8x1, .f32⟩
  | 101 => ⟨S16x4096x8x64, .f32⟩
  | 102 => ⟨S16x4096x8x64, .f32⟩
  | 103 => ⟨S16x4096x8x64, .f32⟩
  | 104 => ⟨S_, .f32⟩
  | 105 => ⟨S16x4096x8, .f32⟩
  | 106 => ⟨S16x4096x8x1, .f32⟩
  | 107 => ⟨S_, .f32⟩
  | 108 => ⟨S16x4096x8x1, .f32⟩
  | 109 => ⟨S16x4096x8x1, .f32⟩
  | 110 => ⟨S16x4096x8x64, .f32⟩
  | 111 => ⟨S16x4096x8x64, .f32⟩
  | 112 => ⟨S_, .f32⟩
  | 113 => ⟨S16x4096x8x1, .f32⟩
  | 114 => ⟨S16x4096x8x1, .f32⟩
  | 115 => ⟨S16x4096x8x1, .f32⟩
  | 116 => ⟨S16x4096x8x64, .f32⟩
  | 117 => ⟨S16x4096x8x64, .f32⟩
  | 118 => ⟨S8x64, .f32⟩
  | 119 => ⟨S1x1x8x64, .f32⟩
  | 120 => ⟨S16x4096x8x64, .f32⟩
  | 121 => ⟨S16x4096x8x64, .f32⟩
  | 122 => ⟨S8x64, .f32⟩
  | 123 => ⟨S1x1x8x64, .f32⟩
  | 124 => ⟨S16x4096x8x64, .f32⟩
  | 125 => ⟨S16x4096x8x64, .f32⟩
  | 126 => ⟨S16x4096x8x64, .f32⟩
  | 127 => ⟨S16x4096x8x64, .f32⟩
  | _ => ⟨S16x4096x512, .f32⟩

abbrev hbmTy0_1 (i : Nat) : BufTy := match i % 128 with
  | 0 => ⟨S16x4096x512, .f32⟩
  | 1 => ⟨S16x4096x512, .f32⟩
  | _ => ⟨S16x4096x512, .f32⟩

abbrev hbmTy (i : Nat) : BufTy := match i / 128 with
  | 0 => hbmTy0_0 i
  | 1 => hbmTy0_1 i
  | _ => ⟨S16x4096x512, .f32⟩

abbrev bufTy : (tb : Table) → Fin (tcTables nBuf tb) → BufTy
  | .hbm, ⟨i, _⟩ => hbmTy i
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_c : Ref sig .tc := ⟨.hbm, 28, rfl⟩
abbrev main_v16_0 : Ref sig .tc := ⟨.hbm, 29, rfl⟩
abbrev main_v16_1 : Ref sig .tc := ⟨.hbm, 30, rfl⟩
abbrev main_v16_2 : Ref sig .tc := ⟨.hbm, 31, rfl⟩
abbrev main_v16_3 : Ref sig .tc := ⟨.hbm, 32, rfl⟩
abbrev main_v16_4 : Ref sig .tc := ⟨.hbm, 33, rfl⟩
abbrev main_v16_5 : Ref sig .tc := ⟨.hbm, 34, rfl⟩
abbrev main_v16_6 : Ref sig .tc := ⟨.hbm, 35, rfl⟩
abbrev main_v16_7 : Ref sig .tc := ⟨.hbm, 36, rfl⟩
abbrev main_v16_8 : Ref sig .tc := ⟨.hbm, 37, rfl⟩
abbrev main_while0c_c_14 : Ref sig .tc := ⟨.hbm, 38, rfl⟩
abbrev main_while0c_v48 : Ref sig .tc := ⟨.hbm, 39, rfl⟩
abbrev main_while0b_call0_c : Ref sig .tc := ⟨.hbm, 40, rfl⟩
abbrev main_while0b_call0_c_0 : Ref sig .tc := ⟨.hbm, 41, rfl⟩
abbrev main_while0b_call0_c_1 : Ref sig .tc := ⟨.hbm, 42, rfl⟩
abbrev main_while0b_call0_v0 : Ref sig .tc := ⟨.hbm, 43, rfl⟩
abbrev main_while0b_v48 : Ref sig .tc := ⟨.hbm, 44, rfl⟩
abbrev main_while0b_call1_c : Ref sig .tc := ⟨.hbm, 45, rfl⟩
abbrev main_while0b_call1_c_0 : Ref sig .tc := ⟨.hbm, 46, rfl⟩
abbrev main_while0b_call1_c_1 : Ref sig .tc := ⟨.hbm, 47, rfl⟩
abbrev main_while0b_call1_v0 : Ref sig .tc := ⟨.hbm, 48, rfl⟩
abbrev main_while0b_v49 : Ref sig .tc := ⟨.hbm, 49, rfl⟩
abbrev main_while0b_call2_c : Ref sig .tc := ⟨.hbm, 50, rfl⟩
abbrev main_while0b_call2_c_0 : Ref sig .tc := ⟨.hbm, 51, rfl⟩
abbrev main_while0b_call2_c_1 : Ref sig .tc := ⟨.hbm, 52, rfl⟩
abbrev main_while0b_call2_v0 : Ref sig .tc := ⟨.hbm, 53, rfl⟩
abbrev main_while0b_v50 : Ref sig .tc := ⟨.hbm, 54, rfl⟩
abbrev main_while0b_call3_c : Ref sig .tc := ⟨.hbm, 55, rfl⟩
abbrev main_while0b_call3_c_0 : Ref sig .tc := ⟨.hbm, 56, rfl⟩
abbrev main_while0b_call3_c_1 : Ref sig .tc := ⟨.hbm, 57, rfl⟩
abbrev main_while0b_call3_v0 : Ref sig .tc := ⟨.hbm, 58, rfl⟩
abbrev main_while0b_v51 : Ref sig .tc := ⟨.hbm, 59, rfl⟩
abbrev main_while0b_call4_c : Ref sig .tc := ⟨.hbm, 60, rfl⟩
abbrev main_while0b_call4_c_0 : Ref sig .tc := ⟨.hbm, 61, rfl⟩
abbrev main_while0b_call4_c_1 : Ref sig .tc := ⟨.hbm, 62, rfl⟩
abbrev main_while0b_call4_v0 : Ref sig .tc := ⟨.hbm, 63, rfl⟩
abbrev main_while0b_v52 : Ref sig .tc := ⟨.hbm, 64, rfl⟩
abbrev main_while0b_call5_c : Ref sig .tc := ⟨.hbm, 65, rfl⟩
abbrev main_while0b_call5_c_0 : Ref sig .tc := ⟨.hbm, 66, rfl⟩
abbrev main_while0b_call5_c_1 : Ref sig .tc := ⟨.hbm, 67, rfl⟩
abbrev main_while0b_call5_v0 : Ref sig .tc := ⟨.hbm, 68, rfl⟩
abbrev main_while0b_v53 : Ref sig .tc := ⟨.hbm, 69, rfl⟩
abbrev main_while0b_v54 : Ref sig .tc := ⟨.hbm, 70, rfl⟩
abbrev main_while0b_v55 : Ref sig .tc := ⟨.hbm, 71, rfl⟩
abbrev main_while0b_v56 : Ref sig .tc := ⟨.hbm, 72, rfl⟩
abbrev main_while0b_v57 : Ref sig .tc := ⟨.hbm, 73, rfl⟩
abbrev main_while0b_v58 : Ref sig .tc := ⟨.hbm, 74, rfl⟩
abbrev main_while0b_v59 : Ref sig .tc := ⟨.hbm, 75, rfl⟩
abbrev main_while0b_v60 : Ref sig .tc := ⟨.hbm, 76, rfl⟩
abbrev main_while0b_v61 : Ref sig .tc := ⟨.hbm, 77, rfl⟩
abbrev main_while0b_v62 : Ref sig .tc := ⟨.hbm, 78, rfl⟩
abbrev main_while0b_v63 : Ref sig .tc := ⟨.hbm, 79, rfl⟩
abbrev main_while0b_v64 : Ref sig .tc := ⟨.hbm, 80, rfl⟩
abbrev main_while0b_v65 : Ref sig .tc := ⟨.hbm, 81, rfl⟩
abbrev main_while0b_v66 : Ref sig .tc := ⟨.hbm, 82, rfl⟩
abbrev main_while0b_v67 : Ref sig .tc := ⟨.hbm, 83, rfl⟩
abbrev main_while0b_v68 : Ref sig .tc := ⟨.hbm, 84, rfl⟩
abbrev main_while0b_v69 : Ref sig .tc := ⟨.hbm, 85, rfl⟩
abbrev main_while0b_v70 : Ref sig .tc := ⟨.hbm, 86, rfl⟩
abbrev main_while0b_call6_v0 : Ref sig .tc := ⟨.hbm, 87, rfl⟩
abbrev main_while0b_call6_c : Ref sig .tc := ⟨.hbm, 88, rfl⟩
abbrev main_while0b_call6_c_0 : Ref sig .tc := ⟨.hbm, 89, rfl⟩
abbrev main_while0b_call6_c_1 : Ref sig .tc := ⟨.hbm, 90, rfl⟩
abbrev main_while0b_v71 : Ref sig .tc := ⟨.hbm, 91, rfl⟩
abbrev main_while0b_c_14 : Ref sig .tc := ⟨.hbm, 92, rfl⟩
abbrev main_while0b_v72 : Ref sig .tc := ⟨.hbm, 93, rfl⟩
abbrev main_v17 : Ref sig .tc := ⟨.hbm, 94, rfl⟩
abbrev main_cst_1 : Ref sig .tc := ⟨.hbm, 95, rfl⟩
abbrev main_v18 : Ref sig .tc := ⟨.hbm, 96, rfl⟩
abbrev main_v19 : Ref sig .tc := ⟨.hbm, 97, rfl⟩
abbrev main_cst_2 : Ref sig .tc := ⟨.hbm, 98, rfl⟩
abbrev main_v20 : Ref sig .tc := ⟨.hbm, 99, rfl⟩
abbrev main_v21 : Ref sig .tc := ⟨.hbm, 100, rfl⟩
abbrev main_v22 : Ref sig .tc := ⟨.hbm, 101, rfl⟩
abbrev main_v23 : Ref sig .tc := ⟨.hbm, 102, rfl⟩
abbrev main_v24 : Ref sig .tc := ⟨.hbm, 103, rfl⟩
abbrev main_cst_3 : Ref sig .tc := ⟨.hbm, 104, rfl⟩
abbrev main_v25 : Ref sig .tc := ⟨.hbm, 105, rfl⟩
abbrev main_v26 : Ref sig .tc := ⟨.hbm, 106, rfl⟩
abbrev main_cst_4 : Ref sig .tc := ⟨.hbm, 107, rfl⟩
abbrev main_v27 : Ref sig .tc := ⟨.hbm, 108, rfl⟩
abbrev main_v28 : Ref sig .tc := ⟨.hbm, 109, rfl⟩
abbrev main_v29 : Ref sig .tc := ⟨.hbm, 110, rfl⟩
abbrev main_v30 : Ref sig .tc := ⟨.hbm, 111, rfl⟩
abbrev main_cst_5 : Ref sig .tc := ⟨.hbm, 112, rfl⟩
abbrev main_v31 : Ref sig .tc := ⟨.hbm, 113, rfl⟩
abbrev main_v32 : Ref sig .tc := ⟨.hbm, 114, rfl⟩
abbrev main_v33 : Ref sig .tc := ⟨.hbm, 115, rfl⟩
abbrev main_v34 : Ref sig .tc := ⟨.hbm, 116, rfl⟩
abbrev main_v35 : Ref sig .tc := ⟨.hbm, 117, rfl⟩
abbrev main_v36 : Ref sig .tc := ⟨.hbm, 118, rfl⟩
abbrev main_v37 : Ref sig .tc := ⟨.hbm, 119, rfl⟩
abbrev main_v38 : Ref sig .tc := ⟨.hbm, 120, rfl⟩
abbrev main_v39 : Ref sig .tc := ⟨.hbm, 121, rfl⟩
abbrev main_v40 : Ref sig .tc := ⟨.hbm, 122, rfl⟩
abbrev main_v41 : Ref sig .tc := ⟨.hbm, 123, rfl⟩
abbrev main_v42 : Ref sig .tc := ⟨.hbm, 124, rfl⟩
abbrev main_v43 : Ref sig .tc := ⟨.hbm, 125, rfl⟩
abbrev main_v44 : Ref sig .tc := ⟨.hbm, 126, rfl⟩
abbrev main_v45 : Ref sig .tc := ⟨.hbm, 127, rfl⟩
abbrev main_v46 : Ref sig .tc := ⟨.hbm, 128, rfl⟩
abbrev main_v47 : Ref sig .tc := ⟨.hbm, 129, rfl⟩

abbrev nD : Nat := 1
abbrev τ : Topo := Topo.v7x

variable {F : FTy → Type} [FloatOps F]

abbrev main_while0_count : Scf.Loop 32 := ⟨0#32, 4096#32, 1#32⟩
-- ==== Proof.Post.Row.lean ====
module

public import Idealize.ShloMosaic.Lib.Pointwise

@[expose] public section

noncomputable section

/-! The arithmetic of one row (one position of one sequence), as functions of the channel: what both programs compute
    there, stated over the row's inputs and the weights alone. -/

namespace Cert.Post

open Idealize.ShloMosaic

/-- One row scaled by the reciprocal root of its mean square (with the model's epsilon) and by a gain per channel. -/
def norm1 (v g : Fin 1024 → EReal) (j : Fin 1024) : EReal :=
  v j * Ideal.rsqrt (Ideal.div (∑ k : Fin 1024, v k * v k) (Ideal.ofBits .f32 0x44800000#32) + Ideal.ofBits .f32 0x358637BD#32) * g j

/-- Where head-major position `x` of the attention's output lies in its packed layout (position in the group, group, channel). -/
def packed (x : Fin 512) : Fin 512 := ⟨x.val / 64 % 4 * 128 + x.val / 256 * 64 + x.val % 64, by omega⟩

/-- Where packed position `k` lies in the head-major layout. -/
def unpacked (k : Fin 512) : Fin 512 := ⟨k.val / 64 % 2 * 256 + k.val / 128 * 64 + k.val % 64, by omega⟩

/-- The two layouts are rearrangements of one another. -/
def packing : Fin 512 ≃ Fin 512 where
  toFun := packed
  invFun := unpacked
  left_inv := by decide +kernel
  right_inv := by decide +kernel

/-- The lower half of the output weights' rows. -/
def lo (x : Fin 512) : Fin 1024 := ⟨x.val, by omega⟩
/-- The upper half of the output weights' rows. -/
def hi (x : Fin 512) : Fin 1024 := ⟨512 + x.val, by omega⟩

/-- One row of the two mixers' outputs (attention's, then recurrence's) through the output weights. -/
def mixRow (a r : Fin 512 → EReal) (w : Fin 1024 → Fin 1024 → EReal) (j : Fin 1024) : EReal :=
  ∑ x : Fin 512, a x * w (lo x) j + ∑ x : Fin 512, r x * w (hi x) j

/-- The residual row after the mixers. -/
def resRow (x : Fin 1024 → EReal) (a r : Fin 512 → EReal) (w : Fin 1024 → Fin 1024 → EReal) (g : Fin 1024 → EReal)
    (j : Fin 1024) : EReal :=
  x j + norm1 (mixRow a r w) g j

/-- The squared rectified hidden unit `f` of the feed-forward layer. -/
def hidden (h : Fin 1024 → EReal) (wu : Fin 1024 → Fin 4096 → EReal) (f : Fin 4096) : EReal :=
  max (∑ k : Fin 1024, h k * wu k f) 0 * max (∑ k : Fin 1024, h k * wu k f) 0

/-- One row of the feed-forward layer. -/
def mlpRow (h : Fin 1024 → EReal) (wu : Fin 1024 → Fin 4096 → EReal) (wd : Fin 4096 → Fin 1024 → EReal) (j : Fin 1024) : EReal :=
  ∑ f : Fin 4096, hidden h wu f * wd f j

/-- The residual row after the feed-forward layer. -/
def ffRow (x : Fin 1024 → EReal) (g1 g2 : Fin 1024 → EReal) (wu : Fin 1024 → Fin 4096 → EReal) (wd : Fin 4096 → Fin 1024 → EReal)
    (j : Fin 1024) : EReal :=
  x j + norm1 (mlpRow (norm1 x g1) wu wd) g2 j

/-- The row the layer returns: the gated embedding added to the residual. -/
def outRow (x : Fin 1024 → EReal) (p : Fin 256 → EReal) (wg : Fin 1024 → Fin 1024 → EReal) (wp : Fin 256 → Fin 1024 → EReal)
    (j : Fin 1024) : EReal :=
  x j + Ideal.div 1 (1 + Ideal.exp (-(∑ k : Fin 1024, x k * wg k j))) * ∑ k : Fin 256, p k * wp k j

/-- The sum over the packed positions, each with the weight row of its head-major place, is the sum over head-major positions. -/
theorem sum_packed (a : Fin 512 → EReal) (w : Fin 512 → EReal) :
    ∑ k : Fin 512, a (unpacked k) * w (unpacked k) = ∑ x : Fin 512, a x * w x :=
  Fintype.sum_equiv packing.symm _ _ fun _ => rfl

/-- A hidden unit of quarter `q`. -/
def quarter (q : Fin 4) (k : Fin 1024) : Fin 4096 := ⟨q.val * 1024 + k.val, by omega⟩

/-- The feed-forward sum over the hidden units, quarter by quarter. -/
theorem sum_quarters (f : Fin 4096 → EReal) :
    ∑ i : Fin 4096, f i = ((∑ k, f (quarter 0 k) + ∑ k, f (quarter 1 k)) + ∑ k, f (quarter 2 k)) + ∑ k, f (quarter 3 k) := by
  have h : ∑ i : Fin 4096, f i = ∑ p : Fin 4 × Fin 1024, f (quarter p.1 p.2) := by
    refine (Fintype.sum_equiv (finProdFinEquiv (m := 4) (n := 1024)) _ _ fun p => ?_).symm
    congr 1; apply Fin.ext; simp [quarter, finProdFinEquiv]; omega
  rw [h, Fintype.sum_prod_type, Fin.sum_univ_four]

end Cert.Post
-- ==== Proof.Post.Body.lean ====
module

public import proofs.«01_k».proof.Proof.Gen.Kernel2Ideal.Frame
public import proofs.«01_k».proof.Proof.Post.Row
public import Idealize.ShloMosaic.Lib.Pipeline.ValueKit

set_option maxRecDepth 16384

@[expose] public section

noncomputable section

/-! The kernel's body on one block of 512 rows: each named value read at a row and a channel. -/

namespace Cert.Post

open Idealize.ShloMosaic Idealize.ShloMosaic.TcCoe Idealize.SL.Sem
open Cert.Kernel2Ideal Cert.Kernel2Ideal.Gen

/-- The residual after the mixers. -/
theorem pay2_at (v0 v2 : Vec Ideal S1x512x512 .f32) (v6 : Vec Ideal S1024x1024 .bf16) (v9 : Vec Ideal S1x512x1024 .f32) (v11 : Vec Ideal S1x1024 .f32) (n : Fin 512) (j : Fin 1024) :
    k0_pay2 v0 v2 v6 v9 v11 (ix2 n j) = (v9 (ix3 0 n j) : EReal) + norm1 (fun j => ∑ x : Fin 512, (v0 (ix3 0 n x) : EReal) * v6 (ix2 (lo x) j) + ∑ x : Fin 512, (v2 (ix3 0 n x) : EReal) * v6 (ix2 (hi x) j)) (fun k => v11 (ix2 0 k)) j := by
  unfold norm1 lo hi
  pointwise [k0_pay2]

/-- The row scale of the second normalisation. -/
theorem pay4_at (v0 v2 : Vec Ideal S1x512x512 .f32) (v6 : Vec Ideal S1024x1024 .bf16) (v9 : Vec Ideal S1x512x1024 .f32) (v11 : Vec Ideal S1x1024 .f32) (n : Fin 512) :
    k0_pay4 v0 v2 v6 v9 v11 (ix2 n 0) = Ideal.rsqrt (Ideal.div (∑ k : Fin 1024, (k0_pay2 v0 v2 v6 v9 v11 (ix2 n k) : EReal) * k0_pay2 v0 v2 v6 v9 v11 (ix2 n k)) (Ideal.ofBits .f32 0x44800000#32) + Ideal.ofBits .f32 0x358637BD#32) := by
  pointwise [k0_pay4]

/-- The normalised residual. -/
theorem pay5_at (v25 : FVec Ideal S512x1024 .f32) (v27 : FVec Ideal S1x1024 .f32) (v35 : FVec Ideal S512x1 .f32) (n : Fin 512) (j : Fin 1024) :
    k0_pay5 v25 v27 v35 (ix2 n j) = (v25 (ix2 n j) : EReal) * v35 (ix2 n 0) * v27 (ix2 0 j) := by
  pointwise [k0_pay5]

/-- One quarter of the feed-forward sum. -/
def part (h : Fin 1024 → EReal) (wu wd : Fin 1024 → Fin 1024 → EReal) (j : Fin 1024) : EReal :=
  ∑ f : Fin 1024, (max (∑ k : Fin 1024, h k * wu k f) 0 * max (∑ k : Fin 1024, h k * wu k f) 0) * wd f j

/-- The first three quarters of the feed-forward sum. -/
theorem pay6_at (v25 : FVec Ideal S512x1024 .f32) (v27 : FVec Ideal S1x1024 .f32) (v35 : FVec Ideal S512x1 .f32) (a0 b0 a1 b1 a2 b2 : Vec Ideal S1024x1024 .bf16) (n : Fin 512) (j : Fin 1024) :
    k0_pay6 v25 v27 v35 a0 b0 a1 b1 a2 b2 (ix2 n j)
      = part (fun k => k0_pay5 v25 v27 v35 (ix2 n k)) (fun k f => a0 (ix2 k f)) (fun k f => b0 (ix2 k f)) j
        + part (fun k => k0_pay5 v25 v27 v35 (ix2 n k)) (fun k f => a1 (ix2 k f)) (fun k f => b1 (ix2 k f)) j
        + part (fun k => k0_pay5 v25 v27 v35 (ix2 n k)) (fun k f => a2 (ix2 k f)) (fun k f => b2 (ix2 k f)) j := by
  unfold part
  pointwise [k0_pay6]

/-- The residual after the feed-forward layer. -/
theorem pay7_at (v25 : FVec Ideal S512x1024 .f32) (v40 : FVec Ideal S512x1024 .bf16) (v72 : FVec Ideal S512x1024 .f32) (a3 b3 : Vec Ideal S1024x1024 .bf16) (v84 : Vec Ideal S1x1024 .f32) (n : Fin 512) (j : Fin 1024) :
    k0_pay7 v25 v40 v72 a3 b3 v84 (ix2 n j)
      = (v25 (ix2 n j) : EReal) + norm1 (fun j => v72 (ix2 n j) + part (fun k => v40 (ix2 n k)) (fun k f => a3 (ix2 k f)) (fun k f => b3 (ix2 k f)) j) (fun k => v84 (ix2 0 k)) j := by
  unfold norm1 part
  pointwise [k0_pay7]

/-- The gate. -/
theorem pay8_at (v25 : FVec Ideal S512x1024 .f32) (v40 : FVec Ideal S512x1024 .bf16) (v72 : FVec Ideal S512x1024 .f32) (a3 b3 : Vec Ideal S1024x1024 .bf16) (v84 : Vec Ideal S1x1024 .f32) (w : Vec Ideal S1024x1024 .bf16) (n : Fin 512) (j : Fin 1024) :
    k0_pay8 v25 v40 v72 a3 b3 v84 w (ix2 n j)
      = Ideal.div 1 (1 + Ideal.exp (-(∑ k : Fin 1024, (k0_pay7 v25 v40 v72 a3 b3 v84 (ix2 n k) : EReal) * w (ix2 k j)))) := by
  pointwise [k0_pay8]
  rw [zero_sub]

/-- The result. -/
theorem pay1_at (v98 v109 : FVec Ideal S512x1024 .f32) (v112 : FVec Ideal S512x256 .bf16) (w : Vec Ideal S256x1024 .bf16) (z : Fin 1) (n : Fin 512) (j : Fin 1024) :
    k0_pay1 v98 v109 v112 w (ix3 z n j) = (v98 (ix2 n j) : EReal) + v109 (ix2 n j) * ∑ k : Fin 256, (v112 (ix2 n k) : EReal) * w (ix2 k j) := by
  pointwise [k0_pay1]

/-- The second normalisation, from its pieces. -/
theorem norm_at (v0 v2 : Vec Ideal S1x512x512 .f32) (v6 : Vec Ideal S1024x1024 .bf16) (v9 : Vec Ideal S1x512x1024 .f32) (v11 v26 : Vec Ideal S1x1024 .f32) (n : Fin 512) (j : Fin 1024) :
    k0_pay5 (k0_pay2 v0 v2 v6 v9 v11) (k0_pay3 v26) (k0_pay4 v0 v2 v6 v9 v11) (ix2 n j)
      = norm1 (fun k => k0_pay2 v0 v2 v6 v9 v11 (ix2 n k)) (fun k => v26 (ix2 0 k)) j := by
  rw [pay5_at, pay4_at]
  unfold norm1
  pointwise [k0_pay3]

/-- A quarter of the first weights' columns, loaded. -/
theorem ld_cols (x8 : Vec Ideal S1024x4096 .bf16) (q : Fin 4) (inb) (k f : Fin 1024) :
    (View.ld x8 (Rect.unit (s := S1024x4096) ![0, q.val * 1024] S1024x1024.size inb) : Vec Ideal S1024x1024 .bf16) (ix2 k f) = x8 (ix2 k (quarter q f)) :=
  Idealize.ShloMosaic.View.ld_unit_apply_of x8 _ _ inb _ _ fun a => by fin_cases a <;> simp [quarter, ix2]

/-- A quarter of the second weights' rows, loaded. -/
theorem ld_rows (x9 : Vec Ideal S4096x1024 .bf16) (q : Fin 4) (inb) (k f : Fin 1024) :
    (View.ld x9 (Rect.unit (s := S4096x1024) ![q.val * 1024, 0] S1024x1024.size inb) : Vec Ideal S1024x1024 .bf16) (ix2 k f) = x9 (ix2 (quarter q k) f) :=
  Idealize.ShloMosaic.View.ld_unit_apply_of x9 _ _ inb _ _ fun a => by fin_cases a <;> simp [quarter, ix2]

/-- A quarter of the feed-forward sum over loaded weights. -/
theorem part_ld (h : Fin 1024 → EReal) (x8 : Vec Ideal S1024x4096 .bf16) (x9 : Vec Ideal S4096x1024 .bf16) (q : Fin 4) (inb8) (inb9) (j : Fin 1024) :
    part h (fun k f => (View.ld x8 (Rect.unit (s := S1024x4096) ![0, q.val * 1024] S1024x1024.size inb8) : Vec Ideal S1024x1024 .bf16) (ix2 k f))
        (fun k f => (View.ld x9 (Rect.unit (s := S4096x1024) ![q.val * 1024, 0] S1024x1024.size inb9) : Vec Ideal S1024x1024 .bf16) (ix2 k f)) j
      = part h (fun k f => x8 (ix2 k (quarter q f))) (fun k f => x9 (ix2 (quarter q k) f)) j :=
  congrArg₂ (fun a b => part h a b j) (funext fun k => funext fun f => ld_cols x8 q inb8 k f) (funext fun k => funext fun f => ld_rows x9 q inb9 k f)

/-- The four quarters make the whole feed-forward sum. -/
theorem mlp_parts (h : Fin 1024 → EReal) (wu : Fin 1024 → Fin 4096 → EReal) (wd : Fin 4096 → Fin 1024 → EReal) (j : Fin 1024) :
    mlpRow h wu wd j
      = ((part h (fun k f => wu k (quarter 0 f)) (fun f l => wd (quarter 0 f) l) j + part h (fun k f => wu k (quarter 1 f)) (fun f l => wd (quarter 1 f) l) j)
          + part h (fun k f => wu k (quarter 2 f)) (fun f l => wd (quarter 2 f) l) j)
        + part h (fun k f => wu k (quarter 3 f)) (fun f l => wd (quarter 3 f) l) j :=
  sum_quarters _

/-- The block the body stores, read at a row and a channel: the row function of the layer's end over the blocks. -/
theorem out_at (x0 : Vec Ideal S1x512x1024 .f32) (x1 x2 : Vec Ideal S1x512x512 .f32) (x3 : Vec Ideal S1x512x256 .f32) (x4 : Vec Ideal S1024x1024 .bf16) (x5 x6 x7 : Vec Ideal S1x1024 .f32) (x8 : Vec Ideal S1024x4096 .bf16) (x9 : Vec Ideal S4096x1024 .bf16) (x10 : Vec Ideal S1024x1024 .bf16) (x11 : Vec Ideal S256x1024 .bf16) (z : Fin 1) (n : Fin 512) (j : Fin 1024) :
    out0_12 x0 x1 x2 x3 x4 x5 x6 x7 x8 x9 x10 x11 (ix3 z n j)
      = outRow (ffRow (fun j => (x0 (ix3 0 n j) : EReal) + norm1 (fun j => ∑ x : Fin 512, (x1 (ix3 0 n x) : EReal) * x4 (ix2 (lo x) j) + ∑ x : Fin 512, (x2 (ix3 0 n x) : EReal) * x4 (ix2 (hi x) j)) (fun k => x5 (ix2 0 k)) j)
          (fun k => x6 (ix2 0 k)) (fun k => x7 (ix2 0 k)) (fun k f => x8 (ix2 k f)) (fun f l => x9 (ix2 f l)))
        (fun k => x3 (ix3 0 n k)) (fun k l => x10 (ix2 k l)) (fun k l => x11 (ix2 k l)) j := by
  unfold_out out0_12
  frame_out
  have h7 : ∀ l : Fin 1024, k0_pay7
        (k0_pay2 x1 x2 x4 x0 x5) (k0_pay5 (k0_pay2 x1 x2 x4 x0 x5) (k0_pay3 x6) (k0_pay4 x1 x2 x4 x0 x5))
        (k0_pay6 (k0_pay2 x1 x2 x4 x0 x5) (k0_pay3 x6) (k0_pay4 x1 x2 x4 x0 x5) (View.ld x8 r0_4) (View.ld x9 r0_5)
          (View.ld x8 r0_6) (View.ld x9 r0_7) (View.ld x8 r0_8) (View.ld x9 r0_9))
        (View.ld x8 r0_10) (View.ld x9 r0_11) x7 (ix2 n l)
      = ffRow (fun j => (x0 (ix3 0 n j) : EReal) + norm1 (fun j => ∑ x : Fin 512, (x1 (ix3 0 n x) : EReal) * x4 (ix2 (lo x) j) + ∑ x : Fin 512, (x2 (ix3 0 n x) : EReal) * x4 (ix2 (hi x) j)) (fun k => x5 (ix2 0 k)) j)
          (fun k => x6 (ix2 0 k)) (fun k => x7 (ix2 0 k)) (fun k f => x8 (ix2 k f)) (fun f l => x9 (ix2 f l)) l := by
    intro l
    unfold ffRow
    rw [pay7_at]
    simp only [pay6_at, norm_at, pay2_at]
    refine congrArg₂ (· + ·) rfl (congrArg (fun v => norm1 v _ l) (funext fun j => ?_))
    rw [mlp_parts]
    exact congrArg₂ (· + ·) (congrArg₂ (· + ·) (congrArg₂ (· + ·) (part_ld _ x8 x9 0 _ _ j) (part_ld _ x8 x9 1 _ _ j))
      (part_ld _ x8 x9 2 _ _ j)) (part_ld _ x8 x9 3 _ _ j)
  rw [pay1_at, pay8_at]
  simp only [h7]
  unfold outRow
  pointwise [k0_pay9]

end Cert.Post
-- ==== Proof.Post.Ref.lean ====
module

public import proofs.«01_k».proof.Proof.Gen.Reference2Ideal.Run
public import proofs.«01_k».proof.Proof.Post.Row
public import Idealize.ShloMosaic.Lib.Pipeline.ValueKit

set_option maxRecDepth 16384

@[expose] public section

noncomputable section

/-! The reference's result, read row by row. Its composed term is cut into the steps of the model's formula, each an
    array; every step is then read at an index. -/

namespace Cert.Post

open Idealize.ShloMosaic Idealize.ShloMosaic.TcCoe Idealize.SL.Sem
open Cert.Reference2Ideal Cert.Reference2Ideal.Gen

/-- The reference's normalisation of every row of an array. -/
def refNorm (y : FVec Ideal S16x4096x1024 .f32) (g : FVec Ideal S1024 .f32) : FVec Ideal S16x4096x1024 .f32 :=
  mulf (mulf y (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf y y) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 g))

/-- The two mixers' outputs side by side, through the output weights. -/
def refMix (a r : FVec Ideal S16x4096x512 .f32) (w : FVec Ideal S1024x1024 .f32) : FVec Ideal S16x4096x1024 .f32 :=
  Host.dotGeneral dot_S16x4096x1024_S1024x1024_S16x4096x1024_2_0_01_1_n_n none (concatenate S16x4096x1024 2 [⟨S16x4096x512, a⟩, ⟨S16x4096x512, r⟩] concatenates_S16x4096x512_S16x4096x512_S16x4096x1024_d2) w

/-- The rectified hidden layer. -/
def refUp (h : FVec Ideal S16x4096x1024 .f32) (wu : FVec Ideal S1024x4096 .f32) : FVec Ideal S16x4096x4096 .f32 :=
  maximumf (Host.dotGeneral dot_S16x4096x1024_S1024x4096_S16x4096x4096_2_0_01_1_n_n none h wu) (broadcastInDim S16x4096x4096 ![] bcast_S_S16x4096x4096 (constant S_ .f32 0x00000000#32))

/-- The feed-forward layer. -/
def refMlp (h : FVec Ideal S16x4096x1024 .f32) (wu : FVec Ideal S1024x4096 .f32) (wd : FVec Ideal S4096x1024 .f32) : FVec Ideal S16x4096x1024 .f32 :=
  Host.dotGeneral dot_S16x4096x4096_S4096x1024_S16x4096x1024_2_0_01_1_n_n none (mulf (refUp h wu) (refUp h wu)) wd

/-- The gated embedding added to the residual. -/
def refGate (x : FVec Ideal S16x4096x1024 .f32) (p : FVec Ideal S16x4096x256 .f32) (wg : FVec Ideal S1024x1024 .f32) (wp : FVec Ideal S256x1024 .f32) : FVec Ideal S16x4096x1024 .f32 :=
  addf x (mulf (Host.divf (broadcastInDim S16x4096x1024 ![] bcast_S_S16x4096x1024 (constant S_ .f32 0x3F800000#32)) (addf (broadcastInDim S16x4096x1024 ![] bcast_S_S16x4096x1024 (constant S_ .f32 0x3F800000#32)) (Host.exp (Host.negf (Host.dotGeneral dot_S16x4096x1024_S1024x1024_S16x4096x1024_2_0_01_1_n_n none x wg))))) (Host.dotGeneral dot_S16x4096x256_S256x1024_S16x4096x1024_2_0_01_1_n_n none p wp))

/-- The residual after the feed-forward layer, from the residual before it. -/
def refFf (x : FVec Ideal S16x4096x1024 .f32) (g1 g2 : FVec Ideal S1024 .f32) (wu : FVec Ideal S1024x4096 .f32) (wd : FVec Ideal S4096x1024 .f32) : FVec Ideal S16x4096x1024 .f32 :=
  addf x (refNorm (refMlp (refNorm x g1) wu wd) g2)

/-- The reference's result, step by step. -/
def refOut (x : FVec Ideal S16x4096x1024 .f32) (a r : FVec Ideal S16x4096x512 .f32) (p : FVec Ideal S16x4096x256 .f32)
    (w : FVec Ideal S1024x1024 .f32) (g0 g1 g2 : FVec Ideal S1024 .f32) (wu : FVec Ideal S1024x4096 .f32)
    (wd : FVec Ideal S4096x1024 .f32) (wg : FVec Ideal S1024x1024 .f32) (wp : FVec Ideal S256x1024 .f32) : FVec Ideal S16x4096x1024 .f32 :=
  refGate (refFf (addf x (refNorm (refMix a r w) g0)) g1 g2 wu wd) p wg wp

/-- The normalisation read at an index. -/
theorem refNorm_at (y : FVec Ideal S16x4096x1024 .f32) (g : FVec Ideal S1024 .f32) (b : Fin 16) (n : Fin 4096) (j : Fin 1024) :
    refNorm y g (ix3 b n j) = norm1 (fun k => y (ix3 b n k)) (fun k => g (ix1 k)) j := by
  unfold norm1
  pointwise [refNorm]

/-- The output projection read at an index. -/
theorem refMix_at (a r : FVec Ideal S16x4096x512 .f32) (w : FVec Ideal S1024x1024 .f32) (b : Fin 16) (n : Fin 4096) (j : Fin 1024) :
    refMix a r w (ix3 b n j) = mixRow (fun k => a (ix3 b n k)) (fun k => r (ix3 b n k)) (fun k l => w (ix2 k l)) j := by
  unfold mixRow lo hi
  pointwise [refMix]

/-- The feed-forward layer read at an index. -/
theorem refMlp_at (h : FVec Ideal S16x4096x1024 .f32) (wu : FVec Ideal S1024x4096 .f32) (wd : FVec Ideal S4096x1024 .f32) (b : Fin 16) (n : Fin 4096) (j : Fin 1024) :
    refMlp h wu wd (ix3 b n j) = mlpRow (fun k => h (ix3 b n k)) (fun k f => wu (ix2 k f)) (fun f l => wd (ix2 f l)) j := by
  unfold mlpRow hidden
  pointwise [refMlp, refUp]

/-- The gate read at an index. -/
theorem refGate_at (x : FVec Ideal S16x4096x1024 .f32) (p : FVec Ideal S16x4096x256 .f32) (wg : FVec Ideal S1024x1024 .f32) (wp : FVec Ideal S256x1024 .f32) (b : Fin 16) (n : Fin 4096) (j : Fin 1024) :
    refGate x p wg wp (ix3 b n j) = outRow (fun k => x (ix3 b n k)) (fun k => p (ix3 b n k)) (fun k l => wg (ix2 k l)) (fun k l => wp (ix2 k l)) j := by
  unfold outRow
  pointwise [refGate]

/-- The residual after the mixers read at an index. -/
theorem refRes_at (x : FVec Ideal S16x4096x1024 .f32) (a r : FVec Ideal S16x4096x512 .f32) (w : FVec Ideal S1024x1024 .f32) (g : FVec Ideal S1024 .f32) (b : Fin 16) (n : Fin 4096) (j : Fin 1024) :
    addf x (refNorm (refMix a r w) g) (ix3 b n j) = resRow (fun k => x (ix3 b n k)) (fun k => a (ix3 b n k)) (fun k => r (ix3 b n k)) (fun k l => w (ix2 k l)) (fun k => g (ix1 k)) j := by
  show x (ix3 b n j) + refNorm (refMix a r w) g (ix3 b n j) = _
  rw [refNorm_at]
  simp only [refMix_at]
  rfl

/-- The residual after the feed-forward layer read at an index. -/
theorem refFf_at (x : FVec Ideal S16x4096x1024 .f32) (g1 g2 : FVec Ideal S1024 .f32) (wu : FVec Ideal S1024x4096 .f32) (wd : FVec Ideal S4096x1024 .f32) (b : Fin 16) (n : Fin 4096) (j : Fin 1024) :
    refFf x g1 g2 wu wd (ix3 b n j) = ffRow (fun k => x (ix3 b n k)) (fun k => g1 (ix1 k)) (fun k => g2 (ix1 k)) (fun k f => wu (ix2 k f)) (fun f l => wd (ix2 f l)) j := by
  show x (ix3 b n j) + refNorm (refMlp (refNorm x g1) wu wd) g2 (ix3 b n j) = _
  rw [refNorm_at]
  simp only [refMlp_at, refNorm_at]
  rfl

/-- The reference's result read at an index: the row function of the layer's end. -/
theorem refOut_at (x : FVec Ideal S16x4096x1024 .f32) (a r : FVec Ideal S16x4096x512 .f32) (p : FVec Ideal S16x4096x256 .f32)
    (w : FVec Ideal S1024x1024 .f32) (g0 g1 g2 : FVec Ideal S1024 .f32) (wu : FVec Ideal S1024x4096 .f32)
    (wd : FVec Ideal S4096x1024 .f32) (wg : FVec Ideal S1024x1024 .f32) (wp : FVec Ideal S256x1024 .f32) (b : Fin 16) (n : Fin 4096) (j : Fin 1024) :
    refOut x a r p w g0 g1 g2 wu wd wg wp (ix3 b n j)
      = outRow (ffRow (resRow (fun k => x (ix3 b n k)) (fun k => a (ix3 b n k)) (fun k => r (ix3 b n k)) (fun k l => w (ix2 k l)) (fun k => g0 (ix1 k)))
          (fun k => g1 (ix1 k)) (fun k => g2 (ix1 k)) (fun k f => wu (ix2 k f)) (fun f l => wd (ix2 f l)))
        (fun k => p (ix3 b n k)) (fun k l => wg (ix2 k l)) (fun k l => wp (ix2 k l)) j := by
  unfold refOut
  rw [refGate_at]
  simp only [refFf_at, refRes_at]

/-- The reference program's composed term is those steps. -/
theorem res_eq (m : (ℓ : Loc nD τ sig) → Buf (Elt Ideal) ℓ) (c : Dev nD) :
    Cert.Reference2Ideal.Value.res_out0 (F := Ideal) m c
      = refOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) := by
  delta Cert.Reference2Ideal.Value.res_out0
  unfold Cert.Reference2Ideal.Value.res_main_v56 refOut refGate refFf refMlp refUp refMix refNorm
  rfl

end Cert.Post
-- ==== Proof.Post.Array.lean ====
module

public import proofs.«01_k».proof.Proof.Gen.Kernel2Ideal.Value
public import proofs.«01_k».proof.Proof.Post.Body
public import proofs.«01_k».proof.Proof.Post.Ref

set_option maxRecDepth 16384

@[expose] public section

noncomputable section

/-! The kernel's result array: every block's rows are the layer's end on the corresponding rows of the arguments. -/

namespace Cert.Post

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- Where each window's block lies at each grid point. -/
theorem idx : ∀ t : Fin cfg0.N, win0_0.index t = ![t.val / 8, t.val % 8, 0] ∧ win0_1.index t = ![t.val / 8, t.val % 8, 0]
    ∧ win0_2.index t = ![t.val / 8, t.val % 8, 0] ∧ win0_3.index t = ![t.val / 8, t.val % 8, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![t.val / 8, t.val % 8, 0] ∧ t.val / 8 < 16 :=
  (by decide +kernel : ∀ t : Fin grid0.N, _)

/-- The sequence a grid point works on. -/
def seqOf (t : Fin cfg0.N) : Fin 16 := ⟨t.val / 8, (idx t).2.2.2.2.2.2.2.2.2.2.2.2.2⟩
/-- The position of row `n` of a grid point's block. -/
def posOf (t : Fin cfg0.N) (n : Fin 512) : Fin 4096 := ⟨t.val % 8 * 512 + n.val, by omega⟩

/-! Rows of the argument arrays, staged. -/

theorem in0 (c : Dev nD) (t : Fin cfg0.N) (z : Fin 1) (n : Fin 512) (j : Fin 1024) :
    (iblk m c 0 t : Vec Ideal S1x512x1024 .f32) (ix3 z n j) = (m ((c : Thread nD τ).loc main_arg0) : Vec Ideal S16x4096x1024 .f32) (ix3 (seqOf t) (posOf t n) j) := by
  unfold seqOf posOf; blk_ext! [iblk, V, idx t]
theorem in1 (c : Dev nD) (t : Fin cfg0.N) (z : Fin 1) (n : Fin 512) (j : Fin 512) :
    (iblk m c 1 t : Vec Ideal S1x512x512 .f32) (ix3 z n j) = (m ((c : Thread nD τ).loc main_arg1) : Vec Ideal S16x4096x512 .f32) (ix3 (seqOf t) (posOf t n) (unpacked j)) := by
  have h : (iblk m c 1 t : Vec Ideal S1x512x512 .f32) (ix3 z n j) = (V m c main_v16 : Vec Ideal S16x4096x512 .f32) (ix3 (seqOf t) (posOf t n) j) := by
    unfold seqOf posOf; blk_ext! [iblk, idx t]
  rw [h]
  unfold unpacked
  entry_read
  pointwise
theorem in2 (c : Dev nD) (t : Fin cfg0.N) (z : Fin 1) (n : Fin 512) (j : Fin 512) :
    (iblk m c 2 t : Vec Ideal S1x512x512 .f32) (ix3 z n j) = (m ((c : Thread nD τ).loc main_arg2) : Vec Ideal S16x4096x512 .f32) (ix3 (seqOf t) (posOf t n) j) := by
  unfold seqOf posOf; blk_ext! [iblk, V, idx t]
theorem in3 (c : Dev nD) (t : Fin cfg0.N) (z : Fin 1) (n : Fin 512) (j : Fin 256) :
    (iblk m c 3 t : Vec Ideal S1x512x256 .f32) (ix3 z n j) = (m ((c : Thread nD τ).loc main_arg3) : Vec Ideal S16x4096x256 .f32) (ix3 (seqOf t) (posOf t n) j) := by
  unfold seqOf posOf; blk_ext! [iblk, V, idx t]

/-! The gains, staged. -/

theorem in5 (c : Dev nD) (t : Fin cfg0.N) (z : Fin 1) (j : Fin 1024) :
    (iblk m c 5 t : Vec Ideal S1x1024 .f32) (ix2 z j) = (m ((c : Thread nD τ).loc main_arg5) : Vec Ideal S1024 .f32) (ix1 j) := by
  blk_point [iblk, V, idx t]
theorem in6 (c : Dev nD) (t : Fin cfg0.N) (z : Fin 1) (j : Fin 1024) :
    (iblk m c 6 t : Vec Ideal S1x1024 .f32) (ix2 z j) = (m ((c : Thread nD τ).loc main_arg6) : Vec Ideal S1024 .f32) (ix1 j) := by
  blk_point [iblk, V, idx t]
theorem in7 (c : Dev nD) (t : Fin cfg0.N) (z : Fin 1) (j : Fin 1024) :
    (iblk m c 7 t : Vec Ideal S1x1024 .f32) (ix2 z j) = (m ((c : Thread nD τ).loc main_arg7) : Vec Ideal S1024 .f32) (ix1 j) := by
  blk_point [iblk, V, idx t]

/-! The weights, staged. -/

theorem in8 (c : Dev nD) (t : Fin cfg0.N) (k : Fin 1024) (f : Fin 4096) :
    (iblk m c 8 t : Vec Ideal S1024x4096 .bf16) (ix2 k f) = (m ((c : Thread nD τ).loc main_arg8) : Vec Ideal S1024x4096 .f32) (ix2 k f) := by
  blk_point [iblk, V, idx t]
theorem in9 (c : Dev nD) (t : Fin cfg0.N) (k : Fin 4096) (f : Fin 1024) :
    (iblk m c 9 t : Vec Ideal S4096x1024 .bf16) (ix2 k f) = (m ((c : Thread nD τ).loc main_arg9) : Vec Ideal S4096x1024 .f32) (ix2 k f) := by
  blk_point [iblk, V, idx t]
theorem in10 (c : Dev nD) (t : Fin cfg0.N) (k : Fin 1024) (f : Fin 1024) :
    (iblk m c 10 t : Vec Ideal S1024x1024 .bf16) (ix2 k f) = (m ((c : Thread nD τ).loc main_arg10) : Vec Ideal S1024x1024 .f32) (ix2 k f) := by
  blk_point [iblk, V, idx t]
theorem in11 (c : Dev nD) (t : Fin cfg0.N) (k : Fin 256) (f : Fin 1024) :
    (iblk m c 11 t : Vec Ideal S256x1024 .bf16) (ix2 k f) = (m ((c : Thread nD τ).loc main_arg11) : Vec Ideal S256x1024 .f32) (ix2 k f) := by
  blk_point [iblk, V, idx t]

/-- The output weights' block is the whole prepared array. -/
theorem in4 (c : Dev nD) (t : Fin cfg0.N) (k j : Fin 1024) :
    (iblk m c 4 t : Vec Ideal S1024x1024 .bf16) (ix2 k j) = (V m c main_v6 : Vec Ideal S1024x1024 .bf16) (ix2 k j) := by
  blk_ext! [iblk, idx t]

/-- Its lower half holds the attention's rows in packed order. -/
theorem in4_lo (c : Dev nD) (t : Fin cfg0.N) (x : Fin 512) (j : Fin 1024) :
    (iblk m c 4 t : Vec Ideal S1024x1024 .bf16) (ix2 (lo x) j) = (m ((c : Thread nD τ).loc main_arg4) : Vec Ideal S1024x1024 .f32) (ix2 (lo (unpacked x)) j) := by
  rw [in4]
  unfold lo unpacked
  entry_read
  pointwise

/-- Its upper half holds the recurrence's rows as they are. -/
theorem in4_hi (c : Dev nD) (t : Fin cfg0.N) (x : Fin 512) (j : Fin 1024) :
    (iblk m c 4 t : Vec Ideal S1024x1024 .bf16) (ix2 (hi x) j) = (m ((c : Thread nD τ).loc main_arg4) : Vec Ideal S1024x1024 .f32) (ix2 (hi x) j) := by
  rw [in4]
  unfold hi
  entry_read
  pointwise

/-- What the kernel computes of the two mixers' outputs is the reference's projection. -/
theorem mix_eq (a r : Fin 512 → EReal) (w : Fin 1024 → Fin 1024 → EReal) (j : Fin 1024) :
    ∑ x : Fin 512, a (unpacked x) * w (lo (unpacked x)) j + ∑ x : Fin 512, r x * w (hi x) j = mixRow a r w j := by
  unfold mixRow
  rw [sum_packed a fun x => w (lo x) j]

/-- The reference's steps over the kernel's arguments. -/
abbrev goal (c : Dev nD) : FVec Ideal S16x4096x1024 .f32 :=
  refOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

/-- What a grid point stores at a row and a channel. -/
theorem point (c : Dev nD) (t : Fin cfg0.N) (z : Fin 1) (n : Fin 512) (j : Fin 1024) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 z n j)
      = goal m c (ix3 (seqOf t) (posOf t n) j) := by
  refine (out_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) z n j).trans ?_
  refine Eq.trans ?_ (refOut_at _ _ _ _ _ _ _ _ _ _ _ _ _ _ _).symm
  simp only [in0, in1, in2, in3, in4_lo, in4_hi, in5, in6, in7, in8, in9, in10, in11]
  have h := fun j => mix_eq (fun x => (m ((c : Thread nD τ).loc main_arg1) : Vec Ideal S16x4096x512 .f32) (ix3 (seqOf t) (posOf t n) x))
    (fun x => (m ((c : Thread nD τ).loc main_arg2) : Vec Ideal S16x4096x512 .f32) (ix3 (seqOf t) (posOf t n) x))
    (fun k l => (m ((c : Thread nD τ).loc main_arg4) : Vec Ideal S1024x1024 .f32) (ix2 k l)) j
  unfold resRow
  simp only [h]

/-- The result array after the run. -/
theorem final (c : Dev nD) : (dats m 0 c).arrAt 12 (cfgs 0).N = goal m c := by
  refine (dats m 0 c).arrAt_eq_of_covers 12 _ (by decide +kernel) fun t _ y => ?_
  blk_simp
  rw [after0_12]
  have hy : (y : S1x512x1024.Idx) = ix3 (y 0 : Fin 1) (y 1 : Fin 512) (y 2 : Fin 1024) := by funext a; fin_cases a <;> rfl
  refine Eq.trans (congrArg (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) hy) ?_
  refine (point m c t _ _ _).trans ?_
  unfold seqOf posOf
  blk_ext! [idx t]
end Cert.Post
-- ==== Proof.Inproj.RunA.lean ====
module

public import proofs.«01_k».proof.Proof.Gen.Kernel3Ideal.Frame.Runs

@[expose] public section

set_option maxRecDepth 16384

noncomputable section

/-! The body of the input projection run at one point of the grid, the first of a sequence. -/

namespace Cert.Inproj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point that opens a sequence (`hc0`: the second coordinate is zero): on whole buffers, the inputs at the
    contents `x0` … `x13`, the outputs and the carried row at anything, it runs and leaves the inputs as they were, each output and
    the carried row with the stores it made, listed last first (the components of the result). -/
noncomputable def runA (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3200 .bf16) (harg4 : arg4.IsWhole) (arg5 : Memref sig .tc .vmem S1x128 .f32) (harg5 : arg5.IsWhole) (arg6 : Memref sig .tc .vmem S1x1792 .f32) (harg6 : arg6.IsWhole) (arg7 : Memref sig .tc .vmem S1x512 .f32) (harg7 : arg7.IsWhole) (arg8 : Memref sig .tc .vmem S128x512 .bf16) (harg8 : arg8.IsWhole) (arg9 : Memref sig .tc .vmem S1x512 .f32) (harg9 : arg9.IsWhole) (arg10 : Memref sig .tc .vmem S128x512 .bf16) (harg10 : arg10.IsWhole) (arg11 : Memref sig .tc .vmem S128x512 .bf16) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S512x512 .bf16) (harg15 : arg15.IsWhole) (arg16 : Memref sig .tc .vmem S1x8x512x128 .bf16) (harg16 : arg16.IsWhole) (arg17 : Memref sig .tc .vmem S1x512x128 .f32) (harg17 : arg17.IsWhole) (arg18 : Memref sig .tc .vmem S1x512x128 .f32) (harg18 : arg18.IsWhole) (arg19 : Memref sig .tc .vmem S1x512x128 .bf16) (harg19 : arg19.IsWhole) (arg20 : Memref sig .tc .vmem S1x512x128 .bf16) (harg20 : arg20.IsWhole) (arg21 : Memref sig .tc .vmem S1x512x128 .bf16) (harg21 : arg21.IsWhole) (arg22 : Memref sig .tc .vmem S1x512x128 .bf16) (harg22 : arg22.IsWhole) (arg23 : Memref sig .tc .vmem S1x512x128 .f32) (harg23 : arg23.IsWhole) (arg24 : Memref sig .tc .vmem S1x512x512 .f32) (harg24 : arg24.IsWhole) (arg25 : Memref sig .tc .vmem S1x512x512 .f32) (harg25 : arg25.IsWhole) (arg26 : Memref sig .tc .vmem S1x512x512 .f32) (harg26 : arg26.IsWhole) (arg27 : Memref sig .tc .vmem S1x512x512 .f32) (harg27 : arg27.IsWhole) (arg28 : Memref sig .tc .vmem S1x512x512 .f32) (harg28 : arg28.IsWhole) (arg29 : Memref sig .tc .vmem S1x512x512 .f32) (harg29 : arg29.IsWhole) (arg30 : Memref sig .tc .vmem S1x512x512 .f32) (harg30 : arg30.IsWhole) (arg31 : Memref sig .tc .vmem S1x512x512 .f32) (harg31 : arg31.IsWhole) (arg32 : Memref sig .tc .vmem S8x1792 .f32) (harg32 : arg32.IsWhole) (hc0 : cond0_0 i)
    (x0 : Vec F S1x512x1024 .f32) (x1 : Vec F S1x1024 .f32) (x2 : Vec F S1024x3200 .bf16) (x3 : Vec F S1x128 .f32) (x4 : Vec F S1x1792 .f32) (x5 : Vec F S1x512 .f32) (x6 : Vec F S128x512 .bf16) (x7 : Vec F S1x512 .f32) (x8 : Vec F S128x512 .bf16) (x9 : Vec F S128x512 .bf16) (x10 : Vec F S1x512 .f32) (x11 : Vec F S1x512 .f32) (x12 : Vec F S1x512 .f32) (x13 : Vec F S512x512 .bf16) :
    Σ' (L14 : List (View.Piece (Elt F) S1x8x512x128 .bf16)), Σ' (L15 : List (View.Piece (Elt F) S1x512x128 .f32)), Σ' (L16 : List (View.Piece (Elt F) S1x512x128 .f32)), Σ' (L17 : List (View.Piece (Elt F) S1x512x128 .bf16)), Σ' (L18 : List (View.Piece (Elt F) S1x512x128 .bf16)), Σ' (L19 : List (View.Piece (Elt F) S1x512x128 .bf16)), Σ' (L20 : List (View.Piece (Elt F) S1x512x128 .bf16)), Σ' (L21 : List (View.Piece (Elt F) S1x512x128 .f32)), Σ' (L22 : List (View.Piece (Elt F) S1x512x512 .f32)), Σ' (L23 : List (View.Piece (Elt F) S1x512x512 .f32)), Σ' (L24 : List (View.Piece (Elt F) S1x512x512 .f32)), Σ' (L25 : List (View.Piece (Elt F) S1x512x512 .f32)), Σ' (L26 : List (View.Piece (Elt F) S1x512x512 .f32)), Σ' (L27 : List (View.Piece (Elt F) S1x512x512 .f32)), Σ' (L28 : List (View.Piece (Elt F) S1x512x512 .f32)), Σ' (L29 : List (View.Piece (Elt F) S1x512x512 .f32)), { LS0 : List (View.Piece (Elt F) S8x1792 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25) ∗ (∃ f, arg28.view.loc (c : Thread nD τ) ↦[arg28.view.set]{fullShare} arg28.view.writes (Elt F) f L26) ∗ (∃ f, arg29.view.loc (c : Thread nD τ) ↦[arg29.view.set]{fullShare} arg29.view.writes (Elt F) f L27) ∗ (∃ f, arg30.view.loc (c : Thread nD τ) ↦[arg30.view.set]{fullShare} arg30.view.writes (Elt F) f L28) ∗ (∃ f, arg31.view.loc (c : Thread nD τ) ↦[arg31.view.set]{fullShare} arg31.view.writes (Elt F) f L29) ∗ (∃ f, arg32.view.loc (c : Thread nD τ) ↦[arg32.view.set]{fullShare} arg32.view.writes (Elt F) f LS0)) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K } := by
  refine ⟨?_, ?_, ?_, ?_, ?_, ?_, ?_, ?_, ?_, ?_, ?_, ?_, ?_, ?_, ?_, ?_, ?_, fun E K => ?run⟩
  case run =>
    simp only [cc0_inproj_eq_skeleton]; unfold cc0_inproj_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    iexists _; iexact HS0

end Cert.Inproj

end
-- ==== Proof.Inproj.Block.lean ====
module

public import proofs.«01_k».proof.Proof.Gen.Kernel3Ideal.Frame.Runs
public import Idealize.ShloMosaic.Lib.Pipeline.ValueKit
public import Idealize.ShloMosaic.Lib.Pipeline.ReadBack

set_option maxRecDepth 16384

@[expose] public section

noncomputable section

/-! What the body of the input projection leaves in each output's buffer, from the inputs' blocks `x0` … `x13` and the row `p`
    carried from the tile before: the program's own arithmetic, over any float values. -/

namespace Cert.Inproj

open Cert.Kernel3Ideal Cert.Kernel3Ideal.Gen
open Idealize.ShloMosaic Idealize.ShloMosaic.TcCoe

variable {F : FTy → Type} [FloatOps F]
variable (x0 : Vec F S1x512x1024 .f32) (x1 : Vec F S1x1024 .f32) (x2 : Vec F S1024x3200 .bf16) (x3 : Vec F S1x128 .f32) (x4 : Vec F S1x1792 .f32) (x5 : Vec F S1x512 .f32) (x6 : Vec F S128x512 .bf16) (x7 : Vec F S1x512 .f32) (x8 : Vec F S128x512 .bf16) (x9 : Vec F S128x512 .bf16) (x10 : Vec F S1x512 .f32) (x11 : Vec F S1x512 .f32) (x12 : Vec F S1x512 .f32) (x13 : Vec F S512x512 .bf16) (p : Vec F S8x1792 .f32)

/-- The columns of the weights that the body loads at once: the query's, the keys' and values', the gates', the recurrence's. -/
def wQ : Vec F S1024x512 .bf16 := View.ld x2 (Rect.unit (s := S1024x3200) ![0, 0] S1024x512.size inb_S1024x3200_S1024x512_0_0)
def wKv : Vec F S1024x768 .bf16 := View.ld x2 (Rect.unit (s := S1024x3200) ![0, 512] S1024x768.size inb_S1024x3200_S1024x768_0_512)
def wGate : Vec F S1024x128 .bf16 := View.ld x2 (Rect.unit (s := S1024x3200) ![0, 1280] S1024x128.size inb_S1024x3200_S1024x128_0_1280)
def wTail : Vec F S1024x1792 .bf16 := View.ld x2 (Rect.unit (s := S1024x3200) ![0, 1408] S1024x1792.size inb_S1024x3200_S1024x1792_0_1408)

/-- The carried row, last of its eight. -/
def row7 : Vec F S1x1792 .f32 := View.ld p (Rect.unit (s := S8x1792) ![7, 0] S1x1792.size inb_S8x1792_S1x1792_7_0)
/-- The lanes' numbers. -/
def lanes : IVec S1x128 32 := iota .tc S1x128 32 [1] iota_S1x128_d1_w32
/-- One. -/
def one : F .f32 := Scalar.ofBits .f32 0x3F800000#32

/-- The normalised rows; the recurrence's projected rows; their differences from the rows before. -/
def bH : FVec F S512x1024 .bf16 := k0_pay3 x0 x1
def bZ : FVec F S512x1792 .f32 := k0_pay4 x0 x1 (wTail x2)
def bD : FVec F S512x1792 .f32 := k0_pay26 (bZ x0 x1 x2) (row7 p)
/-- The scaled queries. -/
def bQ : FVec F S512x512 .f32 := k0_pay6 x0 x1 (wQ x2)
/-- The receptance, the key, the value, the output gate's columns, the learning rate's logit and the learning rate. -/
def bR : FVec F S512x512 .f32 := k0_pay28 (bZ x0 x1 x2) (bD x0 x1 x2 p) x4
def bK : FVec F S512x512 .f32 := k0_pay29 (bZ x0 x1 x2) (bD x0 x1 x2 p) x4
def bV : FVec F S512x512 .f32 := k0_pay30 (bZ x0 x1 x2) (bD x0 x1 x2 p) x4
def bG : FVec F S512x128 .f32 := k0_pay32 (bZ x0 x1 x2) (bD x0 x1 x2 p) x4
def bL : FVec F S512x512 .f32 := k0_pay34 (bZ x0 x1 x2) (bD x0 x1 x2 p) x4 x7 x8
def bA : FVec F S512x512 .f32 := k0_pay35 (bL x0 x1 x2 x4 x7 x8 p) one
/-- The removal key and the replacement key. -/
def bKk : FVec F S512x512 .f32 := k0_pay36 (bK x0 x1 x2 x4 p) x10 x13
def bK2 : FVec F S512x512 .f32 := k0_pay37 (bK x0 x1 x2 x4 p) (bL x0 x1 x2 x4 x7 x8 p) one x11

/-- The rows carried to the next tile. -/
def carry : Vec F S8x1792 .f32 := k0_pay5 x0 x1 (wTail x2)

/-- The queries' block, head by head. -/
def y14 : Vec F S1x8x512x128 .bf16 := View.canon
  [⟨Rect.unit (s := S1x8x512x128) ![0, 7, 0, 0] S1x1x512x128.size inb_S1x8x512x128_S1x1x512x128_0_7_0_0, k0_pay16 (bQ x0 x1 x2) (k0_pay7 lanes 64#32)⟩,
   ⟨Rect.unit (s := S1x8x512x128) ![0, 6, 0, 0] S1x1x512x128.size inb_S1x8x512x128_S1x1x512x128_0_6_0_0, k0_pay15 (bQ x0 x1 x2) (k0_pay7 lanes 64#32)⟩,
   ⟨Rect.unit (s := S1x8x512x128) ![0, 5, 0, 0] S1x1x512x128.size inb_S1x8x512x128_S1x1x512x128_0_5_0_0, k0_pay14 (bQ x0 x1 x2) (k0_pay7 lanes 64#32)⟩,
   ⟨Rect.unit (s := S1x8x512x128) ![0, 4, 0, 0] S1x1x512x128.size inb_S1x8x512x128_S1x1x512x128_0_4_0_0, k0_pay13 (bQ x0 x1 x2) (k0_pay7 lanes 64#32)⟩,
   ⟨Rect.unit (s := S1x8x512x128) ![0, 3, 0, 0] S1x1x512x128.size inb_S1x8x512x128_S1x1x512x128_0_3_0_0, k0_pay12 (k0_pay11 (bQ x0 x1 x2) lanes 64#32)⟩,
   ⟨Rect.unit (s := S1x8x512x128) ![0, 2, 0, 0] S1x1x512x128.size inb_S1x8x512x128_S1x1x512x128_0_2_0_0, k0_pay10 (bQ x0 x1 x2) lanes 64#32⟩,
   ⟨Rect.unit (s := S1x8x512x128) ![0, 1, 0, 0] S1x1x512x128.size inb_S1x8x512x128_S1x1x512x128_0_1_0_0, k0_pay9 (bQ x0 x1 x2) lanes 64#32⟩,
   ⟨Rect.unit (s := S1x8x512x128) ![0, 0, 0, 0] S1x1x512x128.size inb_S1x8x512x128_S1x1x512x128_0_0_0_0, k0_pay8 (bQ x0 x1 x2) lanes 64#32⟩]
/-- The blocks of the keys and values of the three branches, and of the gates. -/
def y15 : Vec F S1x512x128 .f32 := k0_pay18 (bH x0 x1) (wKv x2)
def y16 : Vec F S1x512x128 .f32 := k0_pay19 (bH x0 x1) (wKv x2)
def y17 : Vec F S1x512x128 .bf16 := k0_pay20 (bH x0 x1) (wKv x2)
def y18 : Vec F S1x512x128 .bf16 := k0_pay21 (bH x0 x1) (wKv x2)
def y19 : Vec F S1x512x128 .bf16 := k0_pay23 (k0_pay22 (bH x0 x1) (wKv x2))
def y20 : Vec F S1x512x128 .bf16 := k0_pay24 (k0_pay17 (bH x0 x1) (wKv x2))
def y21 : Vec F S1x512x128 .f32 := k0_pay25 (bH x0 x1) (wGate x2) x3
/-- The blocks of the recurrence's operands. -/
def y22 : Vec F S1x512x512 .f32 := k0_pay38 (bR x0 x1 x2 x4 p)
def y23 : Vec F S1x512x512 .f32 := k0_pay39 (k0_pay33 (bZ x0 x1 x2) (bD x0 x1 x2 p) x4 x5 x6)
def y24 : Vec F S1x512x512 .f32 := k0_pay40 (bK2 x0 x1 x2 x4 x7 x8 x11 p)
def y25 : Vec F S1x512x512 .f32 := k0_pay41 (bV x0 x1 x2 x4 p)
def y26 : Vec F S1x512x512 .f32 := k0_pay42 (bKk x0 x1 x2 x4 x10 x13 p)
def y27 : Vec F S1x512x512 .f32 := k0_pay43 (bA x0 x1 x2 x4 x7 x8 p) (bKk x0 x1 x2 x4 x10 x13 p)
def y28 : Vec F S1x512x512 .f32 := k0_pay44 (bG x0 x1 x2 x4 p) x9
def y29 : Vec F S1x512x512 .f32 := k0_pay1 (bV x0 x1 x2 x4 p) (k0_pay45 (bR x0 x1 x2 x4 p) (bK2 x0 x1 x2 x4 x7 x8 x11 p) x12) x13

/-- Stores that tile a block and together hold `Y`. -/
def Leaves {S : Shape} {e : EltTy} (L : List (View.Piece (Elt F) S e)) (size : Fin S.rank → ℕ) (Y : Vec F S e) : Prop :=
  View.Piece.tiledL L size = true ∧ View.canon L = Y

/-- After such stores a buffer reads `Y`, whatever it held. -/
theorem Leaves.read {S : Shape} {e : EltTy} {L : List (View.Piece (Elt F) S e)} {size : Fin S.rank → ℕ} {Y : Vec F S e} (h : Leaves L size Y)
    {σ : RefSig} {κ : Kind} {sp : Space} (v : View σ κ sp S e) (f : v.ty.Contents (Elt F)) :
    v.read (Elt F) (v.writes (Elt F) f L) = Y :=
  (View.read_writes_eq_canon v f L (View.cover_of_tiledL L size h.1)).trans h.2

end Cert.Inproj
-- ==== Proof.Inproj.LeftA.lean ====
module

public import proofs.«01_k».proof.Proof.Inproj.RunA
public import proofs.«01_k».proof.Proof.Inproj.Block

set_option maxRecDepth 16384

@[expose] public section

noncomputable section

/-! What the run of the body leaves. -/

namespace Cert.Inproj

open Cert.Kernel3Ideal Cert.Kernel3Ideal.Gen
open Idealize.ShloMosaic Idealize.ShloMosaic.TcCoe Idealize.ShloMosaic.Tactic

variable {F : FTy → Type} [FloatOps F]

set_option maxHeartbeats 4000000 in
/-- At a point that opens a sequence, the stores of the run read as the blocks, and the carried rows as `carry`. -/
theorem leftA (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3200 .bf16) (harg4 : arg4.IsWhole) (arg5 : Memref sig .tc .vmem S1x128 .f32) (harg5 : arg5.IsWhole) (arg6 : Memref sig .tc .vmem S1x1792 .f32) (harg6 : arg6.IsWhole) (arg7 : Memref sig .tc .vmem S1x512 .f32) (harg7 : arg7.IsWhole) (arg8 : Memref sig .tc .vmem S128x512 .bf16) (harg8 : arg8.IsWhole) (arg9 : Memref sig .tc .vmem S1x512 .f32) (harg9 : arg9.IsWhole) (arg10 : Memref sig .tc .vmem S128x512 .bf16) (harg10 : arg10.IsWhole) (arg11 : Memref sig .tc .vmem S128x512 .bf16) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S512x512 .bf16) (harg15 : arg15.IsWhole) (arg16 : Memref sig .tc .vmem S1x8x512x128 .bf16) (harg16 : arg16.IsWhole) (arg17 : Memref sig .tc .vmem S1x512x128 .f32) (harg17 : arg17.IsWhole) (arg18 : Memref sig .tc .vmem S1x512x128 .f32) (harg18 : arg18.IsWhole) (arg19 : Memref sig .tc .vmem S1x512x128 .bf16) (harg19 : arg19.IsWhole) (arg20 : Memref sig .tc .vmem S1x512x128 .bf16) (harg20 : arg20.IsWhole) (arg21 : Memref sig .tc .vmem S1x512x128 .bf16) (harg21 : arg21.IsWhole) (arg22 : Memref sig .tc .vmem S1x512x128 .bf16) (harg22 : arg22.IsWhole) (arg23 : Memref sig .tc .vmem S1x512x128 .f32) (harg23 : arg23.IsWhole) (arg24 : Memref sig .tc .vmem S1x512x512 .f32) (harg24 : arg24.IsWhole) (arg25 : Memref sig .tc .vmem S1x512x512 .f32) (harg25 : arg25.IsWhole) (arg26 : Memref sig .tc .vmem S1x512x512 .f32) (harg26 : arg26.IsWhole) (arg27 : Memref sig .tc .vmem S1x512x512 .f32) (harg27 : arg27.IsWhole) (arg28 : Memref sig .tc .vmem S1x512x512 .f32) (harg28 : arg28.IsWhole) (arg29 : Memref sig .tc .vmem S1x512x512 .f32) (harg29 : arg29.IsWhole) (arg30 : Memref sig .tc .vmem S1x512x512 .f32) (harg30 : arg30.IsWhole) (arg31 : Memref sig .tc .vmem S1x512x512 .f32) (harg31 : arg31.IsWhole) (arg32 : Memref sig .tc .vmem S8x1792 .f32) (harg32 : arg32.IsWhole) (hc0 : cond0_0 i)
    (x0 : Vec F S1x512x1024 .f32) (x1 : Vec F S1x1024 .f32) (x2 : Vec F S1024x3200 .bf16) (x3 : Vec F S1x128 .f32) (x4 : Vec F S1x1792 .f32) (x5 : Vec F S1x512 .f32) (x6 : Vec F S128x512 .bf16) (x7 : Vec F S1x512 .f32) (x8 : Vec F S128x512 .bf16) (x9 : Vec F S128x512 .bf16) (x10 : Vec F S1x512 .f32) (x11 : Vec F S1x512 .f32) (x12 : Vec F S1x512 .f32) (x13 : Vec F S512x512 .bf16) :
    ∀ K, K = runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 →
      Leaves K.1 ![1, 1, 512, 128] (y14 x0 x1 x2) ∧
      Leaves K.2.1 ![1, 512, 128] (y15 x0 x1 x2) ∧
      Leaves K.2.2.1 ![1, 512, 128] (y16 x0 x1 x2) ∧
      Leaves K.2.2.2.1 ![1, 512, 128] (y17 x0 x1 x2) ∧
      Leaves K.2.2.2.2.1 ![1, 512, 128] (y18 x0 x1 x2) ∧
      Leaves K.2.2.2.2.2.1 ![1, 512, 128] (y19 x0 x1 x2) ∧
      Leaves K.2.2.2.2.2.2.1 ![1, 512, 128] (y20 x0 x1 x2) ∧
      Leaves K.2.2.2.2.2.2.2.1 ![1, 512, 128] (y21 x0 x1 x2 x3) ∧
      Leaves K.2.2.2.2.2.2.2.2.1 ![1, 512, 512] (y22 x0 x1 x2 x4 k0_pay2) ∧
      Leaves K.2.2.2.2.2.2.2.2.2.1 ![1, 512, 512] (y23 x0 x1 x2 x4 x5 x6 k0_pay2) ∧
      Leaves K.2.2.2.2.2.2.2.2.2.2.1 ![1, 512, 512] (y24 x0 x1 x2 x4 x7 x8 x11 k0_pay2) ∧
      Leaves K.2.2.2.2.2.2.2.2.2.2.2.1 ![1, 512, 512] (y25 x0 x1 x2 x4 k0_pay2) ∧
      Leaves K.2.2.2.2.2.2.2.2.2.2.2.2.1 ![1, 512, 512] (y26 x0 x1 x2 x4 x10 x13 k0_pay2) ∧
      Leaves K.2.2.2.2.2.2.2.2.2.2.2.2.2.1 ![1, 512, 512] (y27 x0 x1 x2 x4 x7 x8 x10 x13 k0_pay2) ∧
      Leaves K.2.2.2.2.2.2.2.2.2.2.2.2.2.2.1 ![1, 512, 512] (y28 x0 x1 x2 x4 x9 k0_pay2) ∧
      Leaves K.2.2.2.2.2.2.2.2.2.2.2.2.2.2.2.1 ![1, 512, 512] (y29 x0 x1 x2 x4 x7 x8 x11 x12 x13 k0_pay2) ∧
      Leaves K.2.2.2.2.2.2.2.2.2.2.2.2.2.2.2.2.1 ![8, 1792] (carry x0 x1 x2) := by
  rintro _ rfl
  refine ⟨⟨by sl_kernel_rfl, ?_⟩, ⟨by sl_kernel_rfl, ?_⟩, ⟨by sl_kernel_rfl, ?_⟩, ⟨by sl_kernel_rfl, ?_⟩, ⟨by sl_kernel_rfl, ?_⟩, ⟨by sl_kernel_rfl, ?_⟩, ⟨by sl_kernel_rfl, ?_⟩, ⟨by sl_kernel_rfl, ?_⟩, ⟨by sl_kernel_rfl, ?_⟩, ⟨by sl_kernel_rfl, ?_⟩, ⟨by sl_kernel_rfl, ?_⟩, ⟨by sl_kernel_rfl, ?_⟩, ⟨by sl_kernel_rfl, ?_⟩, ⟨by sl_kernel_rfl, ?_⟩, ⟨by sl_kernel_rfl, ?_⟩, ⟨by sl_kernel_rfl, ?_⟩, ⟨by sl_kernel_rfl, ?_⟩⟩
  all_goals
    dsimp only [runA]
    simp (disch := decide) only [View.canon_cons_unit_lit', View.ld_unit_lit', View.readCov_unit_lit', View.readCov_fill, View.readAt_eq_ld,
      Memref.IsWhole.read_unread, runA.sl.cst_107, runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17, runA.sl.r_18, runA.sl.r_19, runA.sl.r_20, runA.sl.v23, runA.sl.v33, runA.sl.HS0_1,
      y14, y15, y16, y17, y18, y19, y20, y21, y22, y23, y24, y25, y26, y27, y28, y29, carry, bH, bZ, bD, bQ, bR, bK, bV, bG, bL, bA, bKk, bK2,
      wTail, wQ, wKv, wGate, row7, lanes, one]

end Cert.Inproj
-- ==== Proof.Inproj.LeftB.lean ====
module

public import proofs.«01_k».proof.Proof.Inproj.RunB
public import proofs.«01_k».proof.Proof.Inproj.Block

set_option maxRecDepth 16384

@[expose] public section

noncomputable section

/-! What the run of the body leaves. -/

namespace Cert.Inproj

open Cert.Kernel3Ideal Cert.Kernel3Ideal.Gen
open Idealize.ShloMosaic Idealize.ShloMosaic.TcCoe Idealize.ShloMosaic.Tactic

variable {F : FTy → Type} [FloatOps F]

set_option maxHeartbeats 4000000 in
/-- At any other point, the stores of the run read as the blocks, and the carried rows as `carry`. -/
theorem leftB (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3200 .bf16) (harg4 : arg4.IsWhole) (arg5 : Memref sig .tc .vmem S1x128 .f32) (harg5 : arg5.IsWhole) (arg6 : Memref sig .tc .vmem S1x1792 .f32) (harg6 : arg6.IsWhole) (arg7 : Memref sig .tc .vmem S1x512 .f32) (harg7 : arg7.IsWhole) (arg8 : Memref sig .tc .vmem S128x512 .bf16) (harg8 : arg8.IsWhole) (arg9 : Memref sig .tc .vmem S1x512 .f32) (harg9 : arg9.IsWhole) (arg10 : Memref sig .tc .vmem S128x512 .bf16) (harg10 : arg10.IsWhole) (arg11 : Memref sig .tc .vmem S128x512 .bf16) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S512x512 .bf16) (harg15 : arg15.IsWhole) (arg16 : Memref sig .tc .vmem S1x8x512x128 .bf16) (harg16 : arg16.IsWhole) (arg17 : Memref sig .tc .vmem S1x512x128 .f32) (harg17 : arg17.IsWhole) (arg18 : Memref sig .tc .vmem S1x512x128 .f32) (harg18 : arg18.IsWhole) (arg19 : Memref sig .tc .vmem S1x512x128 .bf16) (harg19 : arg19.IsWhole) (arg20 : Memref sig .tc .vmem S1x512x128 .bf16) (harg20 : arg20.IsWhole) (arg21 : Memref sig .tc .vmem S1x512x128 .bf16) (harg21 : arg21.IsWhole) (arg22 : Memref sig .tc .vmem S1x512x128 .bf16) (harg22 : arg22.IsWhole) (arg23 : Memref sig .tc .vmem S1x512x128 .f32) (harg23 : arg23.IsWhole) (arg24 : Memref sig .tc .vmem S1x512x512 .f32) (harg24 : arg24.IsWhole) (arg25 : Memref sig .tc .vmem S1x512x512 .f32) (harg25 : arg25.IsWhole) (arg26 : Memref sig .tc .vmem S1x512x512 .f32) (harg26 : arg26.IsWhole) (arg27 : Memref sig .tc .vmem S1x512x512 .f32) (harg27 : arg27.IsWhole) (arg28 : Memref sig .tc .vmem S1x512x512 .f32) (harg28 : arg28.IsWhole) (arg29 : Memref sig .tc .vmem S1x512x512 .f32) (harg29 : arg29.IsWhole) (arg30 : Memref sig .tc .vmem S1x512x512 .f32) (harg30 : arg30.IsWhole) (arg31 : Memref sig .tc .vmem S1x512x512 .f32) (harg31 : arg31.IsWhole) (arg32 : Memref sig .tc .vmem S8x1792 .f32) (harg32 : arg32.IsWhole) (hc0 : ¬cond0_0 i)
    (x0 : Vec F S1x512x1024 .f32) (x1 : Vec F S1x1024 .f32) (x2 : Vec F S1024x3200 .bf16) (x3 : Vec F S1x128 .f32) (x4 : Vec F S1x1792 .f32) (x5 : Vec F S1x512 .f32) (x6 : Vec F S128x512 .bf16) (x7 : Vec F S1x512 .f32) (x8 : Vec F S128x512 .bf16) (x9 : Vec F S128x512 .bf16) (x10 : Vec F S1x512 .f32) (x11 : Vec F S1x512 .f32) (x12 : Vec F S1x512 .f32) (x13 : Vec F S512x512 .bf16) (xs0 : Vec F S8x1792 .f32) :
    ∀ K, K = runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 xs0 →
      Leaves K.1 ![1, 1, 512, 128] (y14 x0 x1 x2) ∧
      Leaves K.2.1 ![1, 512, 128] (y15 x0 x1 x2) ∧
      Leaves K.2.2.1 ![1, 512, 128] (y16 x0 x1 x2) ∧
      Leaves K.2.2.2.1 ![1, 512, 128] (y17 x0 x1 x2) ∧
      Leaves K.2.2.2.2.1 ![1, 512, 128] (y18 x0 x1 x2) ∧
      Leaves K.2.2.2.2.2.1 ![1, 512, 128] (y19 x0 x1 x2) ∧
      Leaves K.2.2.2.2.2.2.1 ![1, 512, 128] (y20 x0 x1 x2) ∧
      Leaves K.2.2.2.2.2.2.2.1 ![1, 512, 128] (y21 x0 x1 x2 x3) ∧
      Leaves K.2.2.2.2.2.2.2.2.1 ![1, 512, 512] (y22 x0 x1 x2 x4 xs0) ∧
      Leaves K.2.2.2.2.2.2.2.2.2.1 ![1, 512, 512] (y23 x0 x1 x2 x4 x5 x6 xs0) ∧
      Leaves K.2.2.2.2.2.2.2.2.2.2.1 ![1, 512, 512] (y24 x0 x1 x2 x4 x7 x8 x11 xs0) ∧
      Leaves K.2.2.2.2.2.2.2.2.2.2.2.1 ![1, 512, 512] (y25 x0 x1 x2 x4 xs0) ∧
      Leaves K.2.2.2.2.2.2.2.2.2.2.2.2.1 ![1, 512, 512] (y26 x0 x1 x2 x4 x10 x13 xs0) ∧
      Leaves K.2.2.2.2.2.2.2.2.2.2.2.2.2.1 ![1, 512, 512] (y27 x0 x1 x2 x4 x7 x8 x10 x13 xs0) ∧
      Leaves K.2.2.2.2.2.2.2.2.2.2.2.2.2.2.1 ![1, 512, 512] (y28 x0 x1 x2 x4 x9 xs0) ∧
      Leaves K.2.2.2.2.2.2.2.2.2.2.2.2.2.2.2.1 ![1, 512, 512] (y29 x0 x1 x2 x4 x7 x8 x11 x12 x13 xs0) ∧
      Leaves K.2.2.2.2.2.2.2.2.2.2.2.2.2.2.2.2.1 ![8, 1792] (carry x0 x1 x2) := by
  rintro _ rfl
  refine ⟨⟨by sl_kernel_rfl, ?_⟩, ⟨by sl_kernel_rfl, ?_⟩, ⟨by sl_kernel_rfl, ?_⟩, ⟨by sl_kernel_rfl, ?_⟩, ⟨by sl_kernel_rfl, ?_⟩, ⟨by sl_kernel_rfl, ?_⟩, ⟨by sl_kernel_rfl, ?_⟩, ⟨by sl_kernel_rfl, ?_⟩, ⟨by sl_kernel_rfl, ?_⟩, ⟨by sl_kernel_rfl, ?_⟩, ⟨by sl_kernel_rfl, ?_⟩, ⟨by sl_kernel_rfl, ?_⟩, ⟨by sl_kernel_rfl, ?_⟩, ⟨by sl_kernel_rfl, ?_⟩, ⟨by sl_kernel_rfl, ?_⟩, ⟨by sl_kernel_rfl, ?_⟩, ⟨by sl_kernel_rfl, ?_⟩⟩
  all_goals
    dsimp only [runB]
    simp (disch := decide) only [View.canon_cons_unit_lit', View.ld_unit_lit', View.readCov_unit_lit', View.readCov_fill, View.readAt_eq_ld,
      Memref.IsWhole.read_unread, runB.sl.cst_107, runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, runB.sl.r_19, runB.sl.r_20, runB.sl.r_21, runB.sl.v33,
      y14, y15, y16, y17, y18, y19, y20, y21, y22, y23, y24, y25, y26, y27, y28, y29, carry, bH, bZ, bD, bQ, bR, bK, bV, bG, bL, bA, bKk, bK2,
      wTail, wQ, wKv, wGate, row7, lanes, one]

end Cert.Inproj
-- ==== Proof.Inproj.Body.lean ====
module

public import proofs.«01_k».proof.Proof.Inproj.LeftA
public import proofs.«01_k».proof.Proof.Inproj.LeftB

@[expose] public section

set_option maxRecDepth 16384

noncomputable section

/-! The body of the input projection as one triple: from the inputs' blocks and the carried row's contents to the blocks of
    the outputs and the rows carried on. -/

namespace Cert.Inproj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The carried rows a point works with: zeros where a sequence opens, and otherwise what it finds. -/
def prior (i : grid0.Coords) (p0 : Vec F S8x1792 .f32) : Vec F S8x1792 .f32 := if cond0_0 i then k0_pay2 else p0

/-- Stores that read as `Y`, as ownership of the buffer at `Y`. -/
theorem Leaves.own {S : Shape} {e : EltTy} {L : List (View.Piece (Elt F) S e)} {size : Fin S.rank → ℕ} {Y : Vec F S e}
    (h : Leaves L size Y) (c : Dev nD) (a : Memref sig .tc .vmem S e) :
    iprop(∃ f, a.view.loc (c : Thread nD τ) ↦[a.view.set]{fullShare} a.view.writes (Elt F) f L) ⊢ (owns (c : Thread nD τ) a fullShare Y : sProp 𝕄) := by
  iintro ⟨%f, H⟩
  unfold owns
  iexists _
  isplitr
  swap
  · iexact H
  ipureintro
  exact h.read _ _

set_option maxHeartbeats 1000000 in
/-- The body at any point. -/
theorem body (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3200 .bf16) (harg4 : arg4.IsWhole) (arg5 : Memref sig .tc .vmem S1x128 .f32) (harg5 : arg5.IsWhole) (arg6 : Memref sig .tc .vmem S1x1792 .f32) (harg6 : arg6.IsWhole) (arg7 : Memref sig .tc .vmem S1x512 .f32) (harg7 : arg7.IsWhole) (arg8 : Memref sig .tc .vmem S128x512 .bf16) (harg8 : arg8.IsWhole) (arg9 : Memref sig .tc .vmem S1x512 .f32) (harg9 : arg9.IsWhole) (arg10 : Memref sig .tc .vmem S128x512 .bf16) (harg10 : arg10.IsWhole) (arg11 : Memref sig .tc .vmem S128x512 .bf16) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S512x512 .bf16) (harg15 : arg15.IsWhole) (arg16 : Memref sig .tc .vmem S1x8x512x128 .bf16) (harg16 : arg16.IsWhole) (arg17 : Memref sig .tc .vmem S1x512x128 .f32) (harg17 : arg17.IsWhole) (arg18 : Memref sig .tc .vmem S1x512x128 .f32) (harg18 : arg18.IsWhole) (arg19 : Memref sig .tc .vmem S1x512x128 .bf16) (harg19 : arg19.IsWhole) (arg20 : Memref sig .tc .vmem S1x512x128 .bf16) (harg20 : arg20.IsWhole) (arg21 : Memref sig .tc .vmem S1x512x128 .bf16) (harg21 : arg21.IsWhole) (arg22 : Memref sig .tc .vmem S1x512x128 .bf16) (harg22 : arg22.IsWhole) (arg23 : Memref sig .tc .vmem S1x512x128 .f32) (harg23 : arg23.IsWhole) (arg24 : Memref sig .tc .vmem S1x512x512 .f32) (harg24 : arg24.IsWhole) (arg25 : Memref sig .tc .vmem S1x512x512 .f32) (harg25 : arg25.IsWhole) (arg26 : Memref sig .tc .vmem S1x512x512 .f32) (harg26 : arg26.IsWhole) (arg27 : Memref sig .tc .vmem S1x512x512 .f32) (harg27 : arg27.IsWhole) (arg28 : Memref sig .tc .vmem S1x512x512 .f32) (harg28 : arg28.IsWhole) (arg29 : Memref sig .tc .vmem S1x512x512 .f32) (harg29 : arg29.IsWhole) (arg30 : Memref sig .tc .vmem S1x512x512 .f32) (harg30 : arg30.IsWhole) (arg31 : Memref sig .tc .vmem S1x512x512 .f32) (harg31 : arg31.IsWhole) (arg32 : Memref sig .tc .vmem S8x1792 .f32) (harg32 : arg32.IsWhole)
    (x0 : Vec F S1x512x1024 .f32) (x1 : Vec F S1x1024 .f32) (x2 : Vec F S1024x3200 .bf16) (x3 : Vec F S1x128 .f32) (x4 : Vec F S1x1792 .f32) (x5 : Vec F S1x512 .f32) (x6 : Vec F S128x512 .bf16) (x7 : Vec F S1x512 .f32) (x8 : Vec F S128x512 .bf16) (x9 : Vec F S128x512 .bf16) (x10 : Vec F S1x512 .f32) (x11 : Vec F S1x512 .f32) (x12 : Vec F S1x512 .f32) (x13 : Vec F S512x512 .bf16)
    (p0 : Vec F S8x1792 .f32) (E : Set ℕ) (K : PUnit → sProp 𝕄) :
    iprop(owns (c : Thread nD τ) arg2 fullShare x0 ∗ owns (c : Thread nD τ) arg3 fullShare x1 ∗ owns (c : Thread nD τ) arg4 fullShare x2 ∗
      owns (c : Thread nD τ) arg5 fullShare x3 ∗ owns (c : Thread nD τ) arg6 fullShare x4 ∗ owns (c : Thread nD τ) arg7 fullShare x5 ∗
      owns (c : Thread nD τ) arg8 fullShare x6 ∗ owns (c : Thread nD τ) arg9 fullShare x7 ∗ owns (c : Thread nD τ) arg10 fullShare x8 ∗
      owns (c : Thread nD τ) arg11 fullShare x9 ∗ owns (c : Thread nD τ) arg12 fullShare x10 ∗ owns (c : Thread nD τ) arg13 fullShare x11 ∗
      owns (c : Thread nD τ) arg14 fullShare x12 ∗ owns (c : Thread nD τ) arg15 fullShare x13
      ∗ (∃ d, owns (c : Thread nD τ) arg16 fullShare d) ∗ (∃ d, owns (c : Thread nD τ) arg17 fullShare d) ∗
      (∃ d, owns (c : Thread nD τ) arg18 fullShare d) ∗ (∃ d, owns (c : Thread nD τ) arg19 fullShare d) ∗
      (∃ d, owns (c : Thread nD τ) arg20 fullShare d) ∗ (∃ d, owns (c : Thread nD τ) arg21 fullShare d) ∗
      (∃ d, owns (c : Thread nD τ) arg22 fullShare d) ∗ (∃ d, owns (c : Thread nD τ) arg23 fullShare d) ∗
      (∃ d, owns (c : Thread nD τ) arg24 fullShare d) ∗ (∃ d, owns (c : Thread nD τ) arg25 fullShare d) ∗
      (∃ d, owns (c : Thread nD τ) arg26 fullShare d) ∗ (∃ d, owns (c : Thread nD τ) arg27 fullShare d) ∗
      (∃ d, owns (c : Thread nD τ) arg28 fullShare d) ∗ (∃ d, owns (c : Thread nD τ) arg29 fullShare d) ∗
      (∃ d, owns (c : Thread nD τ) arg30 fullShare d) ∗ (∃ d, owns (c : Thread nD τ) arg31 fullShare d)
      ∗ owns (c : Thread nD τ) arg32 fullShare p0
      ∗ (iprop(owns (c : Thread nD τ) arg2 fullShare x0 ∗ owns (c : Thread nD τ) arg3 fullShare x1 ∗ owns (c : Thread nD τ) arg4 fullShare x2 ∗
      owns (c : Thread nD τ) arg5 fullShare x3 ∗ owns (c : Thread nD τ) arg6 fullShare x4 ∗ owns (c : Thread nD τ) arg7 fullShare x5 ∗
      owns (c : Thread nD τ) arg8 fullShare x6 ∗ owns (c : Thread nD τ) arg9 fullShare x7 ∗ owns (c : Thread nD τ) arg10 fullShare x8 ∗
      owns (c : Thread nD τ) arg11 fullShare x9 ∗ owns (c : Thread nD τ) arg12 fullShare x10 ∗ owns (c : Thread nD τ) arg13 fullShare x11 ∗
      owns (c : Thread nD τ) arg14 fullShare x12 ∗ owns (c : Thread nD τ) arg15 fullShare x13
        ∗ owns (c : Thread nD τ) arg16 fullShare (y14 x0 x1 x2) ∗ owns (c : Thread nD τ) arg17 fullShare (y15 x0 x1 x2) ∗
        owns (c : Thread nD τ) arg18 fullShare (y16 x0 x1 x2) ∗ owns (c : Thread nD τ) arg19 fullShare (y17 x0 x1 x2) ∗
        owns (c : Thread nD τ) arg20 fullShare (y18 x0 x1 x2) ∗ owns (c : Thread nD τ) arg21 fullShare (y19 x0 x1 x2) ∗
        owns (c : Thread nD τ) arg22 fullShare (y20 x0 x1 x2) ∗ owns (c : Thread nD τ) arg23 fullShare (y21 x0 x1 x2 x3) ∗
        owns (c : Thread nD τ) arg24 fullShare (y22 x0 x1 x2 x4 (prior i p0)) ∗
        owns (c : Thread nD τ) arg25 fullShare (y23 x0 x1 x2 x4 x5 x6 (prior i p0)) ∗
        owns (c : Thread nD τ) arg26 fullShare (y24 x0 x1 x2 x4 x7 x8 x11 (prior i p0)) ∗
        owns (c : Thread nD τ) arg27 fullShare (y25 x0 x1 x2 x4 (prior i p0)) ∗
        owns (c : Thread nD τ) arg28 fullShare (y26 x0 x1 x2 x4 x10 x13 (prior i p0)) ∗
        owns (c : Thread nD τ) arg29 fullShare (y27 x0 x1 x2 x4 x7 x8 x10 x13 (prior i p0)) ∗
        owns (c : Thread nD τ) arg30 fullShare (y28 x0 x1 x2 x4 x9 (prior i p0)) ∗
        owns (c : Thread nD τ) arg31 fullShare (y29 x0 x1 x2 x4 x7 x8 x11 x12 x13 (prior i p0))
        ∗ owns (c : Thread nD τ) arg32 fullShare (carry x0 x1 x2)) -∗ K ⟨⟩))
    ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K := by
  by_cases hc0 : cond0_0 i
  · obtain ⟨r, hr⟩ : ∃ r, r = runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 := ⟨_, rfl⟩
    obtain ⟨L14, L15, L16, L17, L18, L19, L20, L21, L22, L23, L24, L25, L26, L27, L28, L29, LS, hrun⟩ := r
    obtain ⟨h14, h15, h16, h17, h18, h19, h20, h21, h22, h23, h24, h25, h26, h27, h28, h29, hS⟩ :
        Leaves L14 ![1, 1, 512, 128] (y14 x0 x1 x2) ∧ Leaves L15 ![1, 512, 128] (y15 x0 x1 x2) ∧ Leaves L16 ![1, 512, 128] (y16 x0 x1 x2) ∧ Leaves L17 ![1, 512, 128] (y17 x0 x1 x2) ∧ Leaves L18 ![1, 512, 128] (y18 x0 x1 x2) ∧ Leaves L19 ![1, 512, 128] (y19 x0 x1 x2) ∧ Leaves L20 ![1, 512, 128] (y20 x0 x1 x2) ∧ Leaves L21 ![1, 512, 128] (y21 x0 x1 x2 x3) ∧ Leaves L22 ![1, 512, 512] (y22 x0 x1 x2 x4 k0_pay2) ∧ Leaves L23 ![1, 512, 512] (y23 x0 x1 x2 x4 x5 x6 k0_pay2) ∧ Leaves L24 ![1, 512, 512] (y24 x0 x1 x2 x4 x7 x8 x11 k0_pay2) ∧ Leaves L25 ![1, 512, 512] (y25 x0 x1 x2 x4 k0_pay2) ∧ Leaves L26 ![1, 512, 512] (y26 x0 x1 x2 x4 x10 x13 k0_pay2) ∧ Leaves L27 ![1, 512, 512] (y27 x0 x1 x2 x4 x7 x8 x10 x13 k0_pay2) ∧ Leaves L28 ![1, 512, 512] (y28 x0 x1 x2 x4 x9 k0_pay2) ∧ Leaves L29 ![1, 512, 512] (y29 x0 x1 x2 x4 x7 x8 x11 x12 x13 k0_pay2) ∧ Leaves LS ![8, 1792] (carry x0 x1 x2) :=
      leftA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 _ hr
    clear hr
    rw [show prior i p0 = k0_pay2 from if_pos hc0]
    refine BIBase.Entails.trans ?_ (hrun E K)
    iterate 30 refine sep_mono_right ?_
    refine BIClass.sep_mono (BIClass.exists_intro (Φ := fun d => owns (c : Thread nD τ) arg32 fullShare d) p0) (wand_mono ?_ .rfl)
    iterate 14 refine sep_mono_right ?_
    exact BIClass.sep_mono (h14.own c arg16) (BIClass.sep_mono (h15.own c arg17) (BIClass.sep_mono (h16.own c arg18) (BIClass.sep_mono (h17.own c arg19) (BIClass.sep_mono (h18.own c arg20) (BIClass.sep_mono (h19.own c arg21)
      (BIClass.sep_mono (h20.own c arg22) (BIClass.sep_mono (h21.own c arg23) (BIClass.sep_mono (h22.own c arg24) (BIClass.sep_mono (h23.own c arg25) (BIClass.sep_mono (h24.own c arg26) (BIClass.sep_mono (h25.own c arg27)
      (BIClass.sep_mono (h26.own c arg28) (BIClass.sep_mono (h27.own c arg29) (BIClass.sep_mono (h28.own c arg30) (BIClass.sep_mono (h29.own c arg31) (hS.own c arg32))))))))))))))))
  · obtain ⟨r, hr⟩ : ∃ r, r = runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 p0 := ⟨_, rfl⟩
    obtain ⟨L14, L15, L16, L17, L18, L19, L20, L21, L22, L23, L24, L25, L26, L27, L28, L29, LS, hrun⟩ := r
    obtain ⟨h14, h15, h16, h17, h18, h19, h20, h21, h22, h23, h24, h25, h26, h27, h28, h29, hS⟩ :
        Leaves L14 ![1, 1, 512, 128] (y14 x0 x1 x2) ∧ Leaves L15 ![1, 512, 128] (y15 x0 x1 x2) ∧ Leaves L16 ![1, 512, 128] (y16 x0 x1 x2) ∧ Leaves L17 ![1, 512, 128] (y17 x0 x1 x2) ∧ Leaves L18 ![1, 512, 128] (y18 x0 x1 x2) ∧ Leaves L19 ![1, 512, 128] (y19 x0 x1 x2) ∧ Leaves L20 ![1, 512, 128] (y20 x0 x1 x2) ∧ Leaves L21 ![1, 512, 128] (y21 x0 x1 x2 x3) ∧ Leaves L22 ![1, 512, 512] (y22 x0 x1 x2 x4 p0) ∧ Leaves L23 ![1, 512, 512] (y23 x0 x1 x2 x4 x5 x6 p0) ∧ Leaves L24 ![1, 512, 512] (y24 x0 x1 x2 x4 x7 x8 x11 p0) ∧ Leaves L25 ![1, 512, 512] (y25 x0 x1 x2 x4 p0) ∧ Leaves L26 ![1, 512, 512] (y26 x0 x1 x2 x4 x10 x13 p0) ∧ Leaves L27 ![1, 512, 512] (y27 x0 x1 x2 x4 x7 x8 x10 x13 p0) ∧ Leaves L28 ![1, 512, 512] (y28 x0 x1 x2 x4 x9 p0) ∧ Leaves L29 ![1, 512, 512] (y29 x0 x1 x2 x4 x7 x8 x11 x12 x13 p0) ∧ Leaves LS ![8, 1792] (carry x0 x1 x2) :=
      leftB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 p0 _ hr
    clear hr
    rw [show prior i p0 = p0 from if_neg hc0]
    refine BIBase.Entails.trans ?_ (hrun E K)
    iterate 31 refine sep_mono_right ?_
    refine wand_mono ?_ .rfl
    iterate 14 refine sep_mono_right ?_
    exact BIClass.sep_mono (h14.own c arg16) (BIClass.sep_mono (h15.own c arg17) (BIClass.sep_mono (h16.own c arg18) (BIClass.sep_mono (h17.own c arg19) (BIClass.sep_mono (h18.own c arg20) (BIClass.sep_mono (h19.own c arg21)
      (BIClass.sep_mono (h20.own c arg22) (BIClass.sep_mono (h21.own c arg23) (BIClass.sep_mono (h22.own c arg24) (BIClass.sep_mono (h23.own c arg25) (BIClass.sep_mono (h24.own c arg26) (BIClass.sep_mono (h25.own c arg27)
      (BIClass.sep_mono (h26.own c arg28) (BIClass.sep_mono (h27.own c arg29) (BIClass.sep_mono (h28.own c arg30) (BIClass.sep_mono (h29.own c arg31) (hS.own c arg32))))))))))))))))

end Cert.Inproj

end
-- ==== Proof.Inproj.Frame.lean ====
module

public import proofs.«01_k».proof.Proof.Inproj.Body

@[expose] public section

set_option maxRecDepth 16384

noncomputable section

/-! The input projection's run: what each buffer holds at each point, the body's obligation, the launch and the frame. -/

namespace Cert.Inproj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point before. -/
abbrev before (t : Fin cfg0.N) : Fin cfg0.N := ⟨t.val - 1, lt_of_le_of_lt (Nat.sub_le _ _) t.isLt⟩

/-- The rows carried on from a point. -/
def carried (c : Dev nD) (t : Fin cfg0.N) : Vec F S8x1792 .f32 := carry (iblk m c 0 t) (iblk m c 1 t) (iblk m c 2 t)

/-- The carried rows a point works with: zeros where a sequence opens, and otherwise those of the point before. -/
def rows (c : Dev nD) (t : Fin cfg0.N) : Vec F S8x1792 .f32 := if t.val % 8 = 0 then k0_pay2 else carried m c (before t)

/-- The invariant: before the first point the carried rows at anything, and otherwise as the point before left them. -/
def PhiS (c : Dev nD) : (n : ℕ) → n ≤ cfg0.N → sProp 𝕄
  | 0, _ => Pipeline.ΦA spec0 c
  | n + 1, hn => iprop((owns (c : Thread nD τ) scM0_0 fullShare (carried m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop((owns (c : Thread nD τ) scM0_0 fullShare (carried m c ⟨n - 1, by omega⟩)) ∗ (∃ r, prngReg c r)) := by
  cases n with
  | zero => exact absurd rfl hz
  | succ n => rfl

/-- What each buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => y14 (iblk m c 0 t) (iblk m c 1 t) (iblk m c 2 t)
    | ⟨15, _⟩ => y15 (iblk m c 0 t) (iblk m c 1 t) (iblk m c 2 t)
    | ⟨16, _⟩ => y16 (iblk m c 0 t) (iblk m c 1 t) (iblk m c 2 t)
    | ⟨17, _⟩ => y17 (iblk m c 0 t) (iblk m c 1 t) (iblk m c 2 t)
    | ⟨18, _⟩ => y18 (iblk m c 0 t) (iblk m c 1 t) (iblk m c 2 t)
    | ⟨19, _⟩ => y19 (iblk m c 0 t) (iblk m c 1 t) (iblk m c 2 t)
    | ⟨20, _⟩ => y20 (iblk m c 0 t) (iblk m c 1 t) (iblk m c 2 t)
    | ⟨21, _⟩ => y21 (iblk m c 0 t) (iblk m c 1 t) (iblk m c 2 t) (iblk m c 3 t)
    | ⟨22, _⟩ => y22 (iblk m c 0 t) (iblk m c 1 t) (iblk m c 2 t) (iblk m c 4 t) (rows m c t)
    | ⟨23, _⟩ => y23 (iblk m c 0 t) (iblk m c 1 t) (iblk m c 2 t) (iblk m c 4 t) (iblk m c 5 t) (iblk m c 6 t) (rows m c t)
    | ⟨24, _⟩ => y24 (iblk m c 0 t) (iblk m c 1 t) (iblk m c 2 t) (iblk m c 4 t) (iblk m c 7 t) (iblk m c 8 t) (iblk m c 11 t) (rows m c t)
    | ⟨25, _⟩ => y25 (iblk m c 0 t) (iblk m c 1 t) (iblk m c 2 t) (iblk m c 4 t) (rows m c t)
    | ⟨26, _⟩ => y26 (iblk m c 0 t) (iblk m c 1 t) (iblk m c 2 t) (iblk m c 4 t) (iblk m c 10 t) (iblk m c 13 t) (rows m c t)
    | ⟨27, _⟩ => y27 (iblk m c 0 t) (iblk m c 1 t) (iblk m c 2 t) (iblk m c 4 t) (iblk m c 7 t) (iblk m c 8 t) (iblk m c 10 t) (iblk m c 13 t) (rows m c t)
    | ⟨28, _⟩ => y28 (iblk m c 0 t) (iblk m c 1 t) (iblk m c 2 t) (iblk m c 4 t) (iblk m c 9 t) (rows m c t)
    | ⟨29, _⟩ => y29 (iblk m c 0 t) (iblk m c 1 t) (iblk m c 2 t) (iblk m c 4 t) (iblk m c 7 t) (iblk m c 8 t) (iblk m c 11 t) (iblk m c 12 t) (iblk m c 13 t) (rows m c t)
    | ⟨_ + 30, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = y14 (iblk m c 0 t) (iblk m c 1 t) (iblk m c 2 t) := by dsimp only [dats]
theorem after15 (c : Dev nD) (t : Fin cfg0.N) : (dats m 0 c).after 15 t = y15 (iblk m c 0 t) (iblk m c 1 t) (iblk m c 2 t) := by dsimp only [dats]
theorem after16 (c : Dev nD) (t : Fin cfg0.N) : (dats m 0 c).after 16 t = y16 (iblk m c 0 t) (iblk m c 1 t) (iblk m c 2 t) := by dsimp only [dats]
theorem after17 (c : Dev nD) (t : Fin cfg0.N) : (dats m 0 c).after 17 t = y17 (iblk m c 0 t) (iblk m c 1 t) (iblk m c 2 t) := by dsimp only [dats]
theorem after18 (c : Dev nD) (t : Fin cfg0.N) : (dats m 0 c).after 18 t = y18 (iblk m c 0 t) (iblk m c 1 t) (iblk m c 2 t) := by dsimp only [dats]
theorem after19 (c : Dev nD) (t : Fin cfg0.N) : (dats m 0 c).after 19 t = y19 (iblk m c 0 t) (iblk m c 1 t) (iblk m c 2 t) := by dsimp only [dats]
theorem after20 (c : Dev nD) (t : Fin cfg0.N) : (dats m 0 c).after 20 t = y20 (iblk m c 0 t) (iblk m c 1 t) (iblk m c 2 t) := by dsimp only [dats]
theorem after21 (c : Dev nD) (t : Fin cfg0.N) : (dats m 0 c).after 21 t = y21 (iblk m c 0 t) (iblk m c 1 t) (iblk m c 2 t) (iblk m c 3 t) := by dsimp only [dats]
theorem after22 (c : Dev nD) (t : Fin cfg0.N) : (dats m 0 c).after 22 t = y22 (iblk m c 0 t) (iblk m c 1 t) (iblk m c 2 t) (iblk m c 4 t) (rows m c t) := by dsimp only [dats]
theorem after23 (c : Dev nD) (t : Fin cfg0.N) : (dats m 0 c).after 23 t = y23 (iblk m c 0 t) (iblk m c 1 t) (iblk m c 2 t) (iblk m c 4 t) (iblk m c 5 t) (iblk m c 6 t) (rows m c t) := by dsimp only [dats]
theorem after24 (c : Dev nD) (t : Fin cfg0.N) : (dats m 0 c).after 24 t = y24 (iblk m c 0 t) (iblk m c 1 t) (iblk m c 2 t) (iblk m c 4 t) (iblk m c 7 t) (iblk m c 8 t) (iblk m c 11 t) (rows m c t) := by dsimp only [dats]
theorem after25 (c : Dev nD) (t : Fin cfg0.N) : (dats m 0 c).after 25 t = y25 (iblk m c 0 t) (iblk m c 1 t) (iblk m c 2 t) (iblk m c 4 t) (rows m c t) := by dsimp only [dats]
theorem after26 (c : Dev nD) (t : Fin cfg0.N) : (dats m 0 c).after 26 t = y26 (iblk m c 0 t) (iblk m c 1 t) (iblk m c 2 t) (iblk m c 4 t) (iblk m c 10 t) (iblk m c 13 t) (rows m c t) := by dsimp only [dats]
theorem after27 (c : Dev nD) (t : Fin cfg0.N) : (dats m 0 c).after 27 t = y27 (iblk m c 0 t) (iblk m c 1 t) (iblk m c 2 t) (iblk m c 4 t) (iblk m c 7 t) (iblk m c 8 t) (iblk m c 10 t) (iblk m c 13 t) (rows m c t) := by dsimp only [dats]
theorem after28 (c : Dev nD) (t : Fin cfg0.N) : (dats m 0 c).after 28 t = y28 (iblk m c 0 t) (iblk m c 1 t) (iblk m c 2 t) (iblk m c 4 t) (iblk m c 9 t) (rows m c t) := by dsimp only [dats]
theorem after29 (c : Dev nD) (t : Fin cfg0.N) : (dats m 0 c).after 29 t = y29 (iblk m c 0 t) (iblk m c 1 t) (iblk m c 2 t) (iblk m c 4 t) (iblk m c 7 t) (iblk m c 8 t) (iblk m c 11 t) (iblk m c 12 t) (iblk m c 13 t) (rows m c t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d

/-- The buffers as the body finds them, the invariant apart; and all that it returns. -/
def given (c : Dev nD) (t : Fin cfg0.N) : sProp 𝕄 :=
  iprop((dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d)))

def returned (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t))

set_option maxHeartbeats 4000000 in
/-- The body at a point, the carried rows' buffer at any contents that the point treats as the rows it works with. -/
theorem sound_of (c : Dev nD) (t : Fin cfg0.N) (p0 : Vec F S8x1792 .f32) (hp : prior (grid0.coords t) p0 = rows m c t) :
    iprop((owns (c : Thread nD τ) scM0_0 fullShare p0 ∗ (∃ r, prngReg c r)) ∗ given m c t)
      ⊢ wp frame (wpE (defs₀ (F := F)) Variants.none c none) Set.univ (bodyAt0 t) (fun _ => returned m c t) := by
  unfold given returned bodyAt0
  simp only [before0, before1, before2, before3, before4, before5, before6, before7, before8, before9, before10, before11, before12, before13]
  rw [show (dats m 0 c).owesAt () t.succ = (dats m 0 c).owesAt () t.castSucc from rfl,
    after0, after1, after2, after3, after4, after5, after6, after7, after8, after9, after10, after11, after12, after13, after14, after15, after16, after17, after18, after19, after20, after21, after22, after23, after24, after25, after26, after27, after28, after29]
  rw [show (dats m 0 c).Φ t.succ
    = iprop((owns (c : Thread nD τ) scM0_0 fullShare (carry (iblk m c 0 t) (iblk m c 1 t) (iblk m c 2 t))) ∗ (∃ r, prngReg c r)) from rfl, ← hp]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply (body c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p0 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [HS]; · iexact HS
  iintro ⟨H0, H1, H2, H3, H4, H5, H6, H7, H8, H9, H10, H11, H12, H13, H14, H15, H16, H17, H18, H19, H20, H21, H22, H23, H24, H25, H26, H27, H28, H29, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  iexact H29

/-- The body at any point. -/
theorem sound_body (c : Dev nD) (t : Fin cfg0.N) :
    iprop((dats m 0 c).Φ t.castSucc ∗ given m c t)
      ⊢ wp frame (wpE (defs₀ (F := F)) Variants.none c none) Set.univ (bodyAt0 t) (fun _ => returned m c t) := by
  rw [PhiS_castSucc m c t]
  by_cases hz : t.val = 0
  · have h0 : t.val % 8 = 0 := by omega
    rw [PhiS_zero m c _ _ hz, PhiA0_eq]
    iintro ⟨⟨⟨%d, HS⟩, Hg⟩, H⟩
    iapply (sound_of m c t d ((if_pos ((hcond0_0 t).mpr h0)).trans (if_pos h0).symm))
    isplitl [HS Hg]
    · isplitl [HS]; · iexact HS
      iexact Hg
    iexact H
  · rw [PhiS_pos m c _ _ hz]
    refine sound_of m c t _ ?_
    by_cases h0 : t.val % 8 = 0
    · exact (if_pos ((hcond0_0 t).mpr h0)).trans (if_pos h0).symm
    · exact (if_neg (mt (hcond0_0 t).mp h0)).trans (if_neg h0).symm

theorem defs₀_row (t : Fin cfg0.N) : defs₀ (F := F) .tc cfg0.body (cfg0.bodyArgs t (cfg0.slots t)) = bodyAt0 t := by
  unfold defs₀; rw [Defs.onTc_tc]

set_option maxHeartbeats 4000000 in
/-- The obligation of the pipeline's body. -/
theorem body_obligation (c : Dev nD) : BodyObligation (dats (F := F) m 0 c) (defs₀ (F := F)) Variants.none () Set.univ := fun t => by
  rw [bigSep_W0, bigSep_W0, defs₀_row]
  have h := sound_body m c t
  unfold given returned at h
  exact triple_restated h rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  have hN : cfg0.N = 128 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA0_eq]
  iintro ⟨HS, Hg⟩
  isplitl [HS]
  · iexists _; iexact HS
  iexact Hg

set_option backward.isDefEq.respectTransparency.types false in
/-- The launch: every array ends as the pipeline leaves it, every other buffer as it was, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end as they began, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12))
      ∧ r.2.sem = fun _ => 0) :=
  θ_run_and (frame_of m ρ (dats m) (A_eq m) (run_main m ρ)) ((θ_run defs _ _).mono (fun _ h => h.2) (run_quiescent m ρ))

end Cert.Inproj

end
-- ==== Proof.Inproj.Table.lean ====
module

public import proofs.«01_k».proof.Kernel3Ideal

set_option maxRecDepth 16384
set_option maxHeartbeats 4000000

@[expose] public section

noncomputable section

/-! The kernel's table of ones on the diagonal blocks of 64: the entry at a row and a column. -/

namespace Cert.Inproj

open Cert.Kernel3Ideal

/-- Stretch `q` of 128 entries: ones in its first half, ones in its second half, or zeros. -/
def stretch (q : ℕ) : ℕ → BitVec 16 := if q % 4 = q / 512 then (if q / 256 % 2 = 0 then lit0t0_0 else lit0t0_256) else lit0t0_1

theorem stretch_at (q i : ℕ) :
    stretch q i = if q % 4 = q / 512 ∧ q / 256 % 2 = i % 128 / 64 then 0x3f80#16 else 0#16 := by
  have h0 : lit0t0_0 i = if i % 128 / 64 = 0 then 0x3f80#16 else 0#16 := by
    unfold lit0t0_0
    have : ∀ r : Fin 128, lit0t0_0 r.val = if r.val / 64 = 0 then 0x3f80#16 else 0#16 := by decide +kernel
    have h := this ⟨i % 128, by omega⟩
    unfold lit0t0_0 at h
    simpa only [Nat.mod_mod] using h
  have h1 : lit0t0_256 i = if i % 128 / 64 = 1 then 0x3f80#16 else 0#16 := by
    unfold lit0t0_256
    have : ∀ r : Fin 128, lit0t0_256 r.val = if r.val / 64 = 1 then 0x3f80#16 else 0#16 := by decide +kernel
    have h := this ⟨i % 128, by omega⟩
    unfold lit0t0_256 at h
    simpa only [Nat.mod_mod] using h
  have h2 : lit0t0_1 i = 0#16 := by
    unfold lit0t0_1
    have : ∀ r : Fin 128, lit0t0_1 r.val = 0#16 := by decide +kernel
    have h := this ⟨i % 128, by omega⟩
    unfold lit0t0_1 at h
    simpa only [Nat.mod_mod] using h
  unfold stretch
  by_cases ha : q % 4 = q / 512
  · by_cases hb : q / 256 % 2 = 0
    · simp only [ha, hb, h0, if_true, true_and, eq_comm]
    · have hb' : q / 256 % 2 = 1 := by omega
      simp only [ha, hb', h1, if_true, true_and, (by decide : ¬ (1 = 0)), if_false, eq_comm]
  · simp only [ha, h2, if_false, false_and]

/-- Every stretch of the table. -/
theorem table_stretch (k i : ℕ) (d : Fin 128) (hlt : k < 16) (hk : i / 16384 = k) (hd : i / 128 % 128 = d.val) :
    lit0t i = stretch (k * 128 + d.val) i := by
  unfold lit0t
  rw [hk]
  obtain rfl | rfl | rfl | rfl | rfl | rfl | rfl | rfl | rfl | rfl | rfl | rfl | rfl | rfl | rfl | rfl :
      k = 0 ∨ k = 1 ∨ k = 2 ∨ k = 3 ∨ k = 4 ∨ k = 5 ∨ k = 6 ∨ k = 7 ∨ k = 8 ∨ k = 9 ∨ k = 10 ∨ k = 11 ∨ k = 12 ∨ k = 13 ∨ k = 14 ∨ k = 15 := by omega
  all_goals conv_lhs => whnf
  all_goals rw [hd]
  all_goals fin_cases d
  all_goals rfl

/-- The table's entry at a row and a column. -/
theorem table_at (i j : Fin 512) (h : 512 * i.val + j.val < 262144) :
    lit0 ⟨512 * i.val + j.val, h⟩ = if i.val / 64 = j.val / 64 then 0x3f80#16 else 0#16 := by
  refine (table_stretch ((512 * i.val + j.val) / 16384) _ ⟨(512 * i.val + j.val) / 128 % 128, by omega⟩ (by omega) rfl rfl).trans ?_
  rw [stretch_at]
  have hq : (512 * i.val + j.val) / 16384 * 128 + (512 * i.val + j.val) / 128 % 128 = 4 * i.val + j.val / 128 := by omega
  have hr : (512 * i.val + j.val) % 128 = j.val % 128 := by omega
  refine if_congr ?_ rfl rfl
  dsimp only
  rw [hq, hr]
  have h1 : (4 * i.val + j.val / 128) % 4 = j.val / 128 := by omega
  have h2 : (4 * i.val + j.val / 128) / 512 = i.val / 128 := by omega
  have h3 : (4 * i.val + j.val / 128) / 256 = i.val / 64 := by omega
  rw [h1, h2, h3]
  omega

end Cert.Inproj
-- ==== Proof.Inproj.Row.lean ====
module

public import proofs.«01_k».proof.Proof.Post.Row

@[expose] public section

noncomputable section

/-! The arithmetic of one position of the input projection, as functions of the channel: what both programs compute there
    from the position's projected row, the projected row before it and the weights. -/

namespace Cert.Inproj

open Idealize.ShloMosaic

/-- The logistic function, as both programs spell it. -/
def logistic (x : EReal) : EReal := Ideal.div 1 (1 + Ideal.exp (-x))

/-- A normalised row through a matrix of weights. -/
def proj {N : ℕ} (x g : Fin 1024 → EReal) (w : Fin 1024 → Fin N → EReal) (k : Fin N) : EReal :=
  ∑ j : Fin 1024, Cert.Post.norm1 x g j * w j k

/-- The query of head `hd` in its lane of the pair of key heads: the head's channels scaled, zero in the other half. -/
def query (z : Fin 3096 → EReal) (hd : Fin 8) (l : Fin 128) : EReal :=
  if hd.val / 4 = l.val / 64 then z ⟨hd.val * 64 + l.val % 64, by omega⟩ * Ideal.ofBits .f32 0x3E000000#32 else 0

/-- The branch gates, one half beyond the 24 of them. -/
def gate (z : Fin 3096 → EReal) (bias : Fin 24 → EReal) (l : Fin 128) : EReal :=
  if h : l.val < 24 then logistic (z ⟨1280 + l.val, by omega⟩ + bias ⟨l.val, h⟩) else Ideal.ofBits .f32 0x3F000000#32

/-- The recurrence's columns of a projected row. -/
def tail (z : Fin 3096 → EReal) (c : Fin 1792) : EReal := z ⟨1304 + c.val, by omega⟩

/-- A row mixed with the row before it, channel by channel. -/
def mixed (z p mu : Fin 1792 → EReal) (c : Fin 1792) : EReal := z c + (p c - z c) * mu c

/-- The decay's exponent before its nonlinearity. -/
def decay (s : Fin 1792 → EReal) (w0 : Fin 512 → EReal) (wl : Fin 64 → Fin 512 → EReal) (c : Fin 512) : EReal :=
  w0 c + ∑ i : Fin 64, Ideal.tanh (s ⟨1536 + i.val, by omega⟩) * wl i c

/-- The log decay from that exponent. -/
def logDecay (w : EReal) : EReal :=
  -Ideal.exp (-(max (-w) 0 + Ideal.log (1 + Ideal.exp (-max w (-w)))) - Ideal.ofBits .f32 0x3F000000#32)

/-- The in-context learning rate. -/
def rate (s : Fin 1792 → EReal) (a0 : Fin 512 → EReal) (al : Fin 64 → Fin 512 → EReal) (c : Fin 512) : EReal :=
  logistic (a0 c + ∑ i : Fin 64, s ⟨1600 + i.val, by omega⟩ * al i c)

/-- The output gate. -/
def outGate (s : Fin 1792 → EReal) (gl : Fin 128 → Fin 512 → EReal) (c : Fin 512) : EReal :=
  ∑ i : Fin 128, logistic (s ⟨1664 + i.val, by omega⟩) * gl i c

/-- The channel at place `e` of the head of channel `c`. -/
def inHead (c : Fin 512) (e : Fin 64) : Fin 512 := ⟨c.val / 64 * 64 + e.val, by omega⟩

/-- The receptance, key and value channels of a mixed row. -/
def rOf (s : Fin 1792 → EReal) (c : Fin 512) : EReal := s ⟨c.val, by omega⟩
def kOf (s : Fin 1792 → EReal) (c : Fin 512) : EReal := s ⟨512 + c.val, by omega⟩
def vOf (s : Fin 1792 → EReal) (c : Fin 512) : EReal := s ⟨1024 + c.val, by omega⟩

/-- The removal key: the scaled key divided by its head's norm. -/
def removal (s : Fin 1792 → EReal) (kw : Fin 512 → EReal) (c : Fin 512) : EReal :=
  kOf s c * kw c * Ideal.rsqrt (max (∑ e : Fin 64, kOf s (inHead c e) * kw (inHead c e) * (kOf s (inHead c e) * kw (inHead c e))) (Ideal.ofBits .f32 0x179ABE15#32))

/-- The replacement key. -/
def key (s : Fin 1792 → EReal) (a ka : Fin 512 → EReal) (c : Fin 512) : EReal := kOf s c * (1 + (a c - 1) * ka c)

/-- The bonus: the head's product of receptance, key and bonus weight, times the value. -/
def bonus (s : Fin 1792 → EReal) (k rk : Fin 512 → EReal) (c : Fin 512) : EReal :=
  (∑ e : Fin 64, rOf s (inHead c e) * k (inHead c e) * rk (inHead c e)) * vOf s c

end Cert.Inproj
-- ==== Proof.Inproj.Pay.lean ====
module

public import proofs.«01_k».proof.Proof.Inproj.Block
public import proofs.«01_k».proof.Proof.Inproj.Row

set_option maxRecDepth 16384

@[expose] public section

noncomputable section

/-! The body's arithmetic on one block of 512 rows: each step read at a row and a channel. -/

namespace Cert.Inproj

open Cert.Kernel3Ideal Cert.Kernel3Ideal.Gen
open Idealize.ShloMosaic Idealize.ShloMosaic.TcCoe

/-- The normalised rows. -/
theorem pay3_at (v3 : Vec Ideal S1x512x1024 .f32) (v5 : Vec Ideal S1x1024 .f32) (n : Fin 512) (j : Fin 1024) :
    k0_pay3 v3 v5 (ix2 n j) = Cert.Post.norm1 (fun j => v3 (ix3 0 n j)) (fun j => v5 (ix2 0 j)) j := by
  unfold Cert.Post.norm1
  pointwise [k0_pay3]

/-- The recurrence's projected rows. -/
theorem pay4_at (v3 : Vec Ideal S1x512x1024 .f32) (v5 : Vec Ideal S1x1024 .f32) (w : Vec Ideal S1024x1792 .bf16) (n : Fin 512) (c : Fin 1792) :
    k0_pay4 v3 v5 w (ix2 n c) = proj (fun j => v3 (ix3 0 n j)) (fun j => v5 (ix2 0 j)) (fun j k => w (ix2 j k)) c := by
  unfold proj
  simp only [← pay3_at]
  pointwise [k0_pay4]

/-- The rows carried to the next tile. -/
theorem pay5_at (v3 : Vec Ideal S1x512x1024 .f32) (v5 : Vec Ideal S1x1024 .f32) (w : Vec Ideal S1024x1792 .bf16) (i : Fin 8) (c : Fin 1792) :
    k0_pay5 v3 v5 w (ix2 i c) = k0_pay4 v3 v5 w (ix2 ⟨504 + i.val, by omega⟩ c) := by
  pointwise [k0_pay5]

/-- The scaled queries. -/
theorem pay6_at (v3 : Vec Ideal S1x512x1024 .f32) (v5 : Vec Ideal S1x1024 .f32) (w : Vec Ideal S1024x512 .bf16) (n : Fin 512) (c : Fin 512) :
    k0_pay6 v3 v5 w (ix2 n c) = proj (fun j => v3 (ix3 0 n j)) (fun j => v5 (ix2 0 j)) (fun j k => w (ix2 j k)) c * Ideal.ofBits .f32 0x3E000000#32 := by
  unfold proj
  simp only [← pay3_at]
  pointwise [k0_pay6]

/-- The difference from the row before. -/
theorem pay26_at (z : FVec Ideal S512x1792 .f32) (p : Vec Ideal S1x1792 .f32) (n : Fin 512) (c : Fin 1792) :
    k0_pay26 z p (ix2 n c) = (if h : n.val = 0 then (p (ix2 0 c) : EReal) else z (ix2 ⟨n.val - 1, by omega⟩ c)) - z (ix2 n c) := by
  pointwise [k0_pay26]
  rw [(by decide +kernel : ∀ n : Fin 512, IntOp.cmpi .eq (BitVec.ofNat 32 n.val) 0#32 = if n.val = 0 then 1#1 else 0#1) n]
  by_cases h : n.val = 0
  · rw [if_pos h, dif_pos h]; rfl
  · rw [if_neg h, dif_neg h]
    have e : (n.val + 512 - 1) % 512 = n.val - 1 := by omega
    simp only [e]
    rfl

/-- The mixed row. -/
theorem pay27_at (z d : FVec Ideal S512x1792 .f32) (mu : Vec Ideal S1x1792 .f32) (n : Fin 512) (c : Fin 1792) :
    k0_pay27 z d mu (ix2 n c) = (z (ix2 n c) : EReal) + d (ix2 n c) * mu (ix2 0 c) := by
  pointwise [k0_pay27]

/-- The gates. -/
theorem pay25_at (h : FVec Ideal S512x1024 .bf16) (w : Vec Ideal S1024x128 .bf16) (b : Vec Ideal S1x128 .f32) (z : Fin 1) (n : Fin 512) (l : Fin 128) :
    k0_pay25 h w b (ix3 z n l) = logistic (∑ j : Fin 1024, (h (ix2 n j) : EReal) * w (ix2 j l) + b (ix2 0 l)) := by
  unfold logistic
  pointwise [k0_pay25]
  simp only [zero_sub]

/-- The decay's nonlinearity, first half. -/
theorem pay33_at (z d : FVec Ideal S512x1792 .f32) (mu : Vec Ideal S1x1792 .f32) (w0 : Vec Ideal S1x512 .f32) (wl : Vec Ideal S128x512 .bf16) (n c : Fin 512) (w : EReal)
    (hw : (w0 (ix2 0 c) : EReal) + ∑ i : Fin 128, Ideal.tanh (k0_pay27 z d mu (ix2 n ⟨1536 + i.val, by omega⟩)) * wl (ix2 i c) = w) :
    k0_pay33 z d mu w0 wl (ix2 n c) = max (-w) 0 + Ideal.log (1 + Ideal.exp (-max w (-w))) := by
  subst hw
  pointwise [k0_pay33, k0_pay31]
  simp only [zero_sub, Ideal.absf_def]

theorem pay39_at (v : FVec Ideal S512x512 .f32) (z : Fin 1) (n c : Fin 512) :
    k0_pay39 v (ix3 z n c) = -Ideal.exp (-(v (ix2 n c) : EReal) - Ideal.ofBits .f32 0x3F000000#32) := by
  pointwise [k0_pay39]
  simp only [zero_sub]

/-- The learning rate's denominator. -/
theorem pay34_at (z d : FVec Ideal S512x1792 .f32) (mu : Vec Ideal S1x1792 .f32) (a0 : Vec Ideal S1x512 .f32) (al : Vec Ideal S128x512 .bf16) (n c : Fin 512) :
    k0_pay34 z d mu a0 al (ix2 n c) = 1 + Ideal.exp (-((a0 (ix2 0 c) : EReal) + ∑ i : Fin 128, k0_pay27 z d mu (ix2 n ⟨1536 + i.val, by omega⟩) * al (ix2 i c))) := by
  pointwise [k0_pay34, k0_pay31]
  simp only [zero_sub]

theorem pay35_at (v : FVec Ideal S512x512 .f32) (n c : Fin 512) : k0_pay35 v one (ix2 n c) = Ideal.div 1 (v (ix2 n c)) := by
  unfold one
  pointwise [k0_pay35]

/-- The output gate. -/
theorem pay44_at (g : FVec Ideal S512x128 .f32) (gl : Vec Ideal S128x512 .bf16) (z : Fin 1) (n c : Fin 512) :
    k0_pay44 g gl (ix3 z n c) = ∑ i : Fin 128, logistic (g (ix2 n i)) * gl (ix2 i c) := by
  unfold logistic
  pointwise [k0_pay44]
  simp only [zero_sub]

/-- The removal key. -/
theorem pay36_at (k : FVec Ideal S512x512 .f32) (kw : Vec Ideal S1x512 .f32) (bd : Vec Ideal S512x512 .bf16) (n c : Fin 512) :
    k0_pay36 k kw bd (ix2 n c) = (k (ix2 n c) : EReal) * kw (ix2 0 c) * Ideal.rsqrt (max (∑ i : Fin 512, ((k (ix2 n i) : EReal) * kw (ix2 0 i) * (k (ix2 n i) * kw (ix2 0 i))) * bd (ix2 i c)) (Ideal.ofBits .f32 0x179ABE15#32)) := by
  pointwise [k0_pay36]

/-- The replacement key. -/
theorem pay37_at (k v : FVec Ideal S512x512 .f32) (ka : Vec Ideal S1x512 .f32) (n c : Fin 512) :
    k0_pay37 k v one ka (ix2 n c) = (k (ix2 n c) : EReal) * (1 + (Ideal.div 1 (v (ix2 n c)) - 1) * ka (ix2 0 c)) := by
  simp only [← pay35_at]
  pointwise [k0_pay37]

/-- The bonus. -/
theorem pay45_at (r k : FVec Ideal S512x512 .f32) (rk : Vec Ideal S1x512 .f32) (n c : Fin 512) :
    k0_pay45 r k rk (ix2 n c) = (r (ix2 n c) : EReal) * k (ix2 n c) * rk (ix2 0 c) := by
  pointwise [k0_pay45]
theorem pay1_at (v u : FVec Ideal S512x512 .f32) (bd : Vec Ideal S512x512 .bf16) (z : Fin 1) (n c : Fin 512) :
    k0_pay1 v u bd (ix3 z n c) = (∑ i : Fin 512, (u (ix2 n i) : EReal) * bd (ix2 i c)) * v (ix2 n c) := by
  pointwise [k0_pay1]

/-! The loads of the weights' columns, and of the last carried row. -/

theorem wQ_at (x2 : Vec Ideal S1024x3200 .bf16) (j : Fin 1024) (k : Fin 512) : wQ x2 (ix2 j k) = x2 (ix2 j ⟨k.val, by omega⟩) :=
  Idealize.ShloMosaic.View.ld_unit_apply_of x2 _ _ _ _ _ fun a => by fin_cases a <;> simp [ix2]
theorem wKv_at (x2 : Vec Ideal S1024x3200 .bf16) (j : Fin 1024) (k : Fin 768) : wKv x2 (ix2 j k) = x2 (ix2 j ⟨512 + k.val, by omega⟩) :=
  Idealize.ShloMosaic.View.ld_unit_apply_of x2 _ _ _ _ _ fun a => by fin_cases a <;> simp [ix2]
theorem wGate_at (x2 : Vec Ideal S1024x3200 .bf16) (j : Fin 1024) (k : Fin 128) : wGate x2 (ix2 j k) = x2 (ix2 j ⟨1280 + k.val, by omega⟩) :=
  Idealize.ShloMosaic.View.ld_unit_apply_of x2 _ _ _ _ _ fun a => by fin_cases a <;> simp [ix2]
theorem wTail_at (x2 : Vec Ideal S1024x3200 .bf16) (j : Fin 1024) (k : Fin 1792) : wTail x2 (ix2 j k) = x2 (ix2 j ⟨1408 + k.val, by omega⟩) :=
  Idealize.ShloMosaic.View.ld_unit_apply_of x2 _ _ _ _ _ fun a => by fin_cases a <;> simp [ix2]
theorem row7_at (p : Vec Ideal S8x1792 .f32) (k : Fin 1792) : row7 p (ix2 0 k) = p (ix2 7 k) :=
  Idealize.ShloMosaic.View.ld_unit_apply_of p _ _ _ _ _ fun a => by fin_cases a <;> simp [ix2]

end Cert.Inproj
-- ==== Proof.Inproj.Heads.lean ====
module
public import proofs.«01_k».proof.Proof.Inproj.Pay
set_option maxRecDepth 16384
@[expose] public section
noncomputable section
namespace Cert.Inproj
open Cert.Kernel3Ideal Cert.Kernel3Ideal.Gen
open Idealize.ShloMosaic Idealize.ShloMosaic.TcCoe

/-! The queries' heads: a head's 64 channels in the lanes of its key head, zeros in the other lanes. -/

theorem pick_low (l : Fin 128) (a b : EReal) (h : l.val < 64 → a = b) :
    Scalar.select (IntOp.cmpi .slt (BitVec.ofNat 32 l.val) 64#32) a 0 = if 0 = l.val / 64 then b else 0 := by
  rw [(by decide +kernel : ∀ l : Fin 128, IntOp.cmpi .slt (BitVec.ofNat 32 l.val) 64#32 = if l.val < 64 then 1#1 else 0#1) l]
  by_cases hl : l.val < 64
  · rw [if_pos hl, if_pos (by omega)]; exact h hl
  · rw [if_neg hl, if_neg (by omega)]; rfl
theorem pick_high (l : Fin 128) (a b : EReal) (h : ¬ l.val < 64 → a = b) :
    Scalar.select (IntOp.xori (IntOp.cmpi .slt (BitVec.ofNat 32 l.val) 64#32) 1#1) a 0 = if 1 = l.val / 64 then b else 0 := by
  rw [(by decide +kernel : ∀ l : Fin 128, IntOp.xori (IntOp.cmpi .slt (BitVec.ofNat 32 l.val) 64#32) 1#1 = if l.val < 64 then 0#1 else 1#1) l]
  by_cases hl : l.val < 64
  · rw [if_pos hl, if_neg (by omega)]; rfl
  · rw [if_neg hl, if_pos (by omega)]; exact h hl

/-- Head `h` of the queries at a position and a lane. -/
def headOf (q : FVec Ideal S512x512 .f32) (h : Fin 8) (n : Fin 512) (l : Fin 128) : EReal :=
  if h.val / 4 = l.val / 64 then q (ix2 n ⟨h.val * 64 + l.val % 64, by omega⟩) else 0

variable (q : FVec Ideal S512x512 .f32) (z w : Fin 1) (n : Fin 512) (l : Fin 128)

theorem pay8_at : k0_pay8 q lanes 64#32 (ix4 z w n l) = headOf q 0 n l := by
  unfold headOf; pointwise [k0_pay8, k0_pay7, lanes]
  exact pick_low l _ _ fun h => congrArg (fun k => q (ix2 n k)) (Fin.ext (by dsimp only; omega))
theorem pay9_at : k0_pay9 q lanes 64#32 (ix4 z w n l) = headOf q 1 n l := by
  unfold headOf; pointwise [k0_pay9, k0_pay7, lanes]
  exact pick_low l _ _ fun h => congrArg (fun k => q (ix2 n k)) (Fin.ext (by dsimp only; omega))
theorem pay10_at : k0_pay10 q lanes 64#32 (ix4 z w n l) = headOf q 2 n l := by
  unfold headOf; pointwise [k0_pay10, k0_pay7, lanes]
  exact pick_low l _ _ fun h => congrArg (fun k => q (ix2 n k)) (Fin.ext (by dsimp only; omega))
theorem pay12_at : k0_pay12 (k0_pay11 q lanes 64#32) (ix4 z w n l) = headOf q 3 n l := by
  unfold headOf; pointwise [k0_pay12, k0_pay11, k0_pay7, lanes]
  exact pick_low l _ _ fun h => congrArg (fun k => q (ix2 n k)) (Fin.ext (by dsimp only; omega))
theorem pay13_at : k0_pay13 q (k0_pay7 lanes 64#32) (ix4 z w n l) = headOf q 4 n l := by
  unfold headOf; pointwise [k0_pay13, k0_pay7, lanes]
  exact pick_high l _ _ fun h => congrArg (fun k => q (ix2 n k)) (Fin.ext (by dsimp only; omega))
theorem pay14_at : k0_pay14 q (k0_pay7 lanes 64#32) (ix4 z w n l) = headOf q 5 n l := by
  unfold headOf; pointwise [k0_pay14, k0_pay7, lanes]
  exact pick_high l _ _ fun h => congrArg (fun k => q (ix2 n k)) (Fin.ext (by dsimp only; omega))
theorem pay15_at : k0_pay15 q (k0_pay7 lanes 64#32) (ix4 z w n l) = headOf q 6 n l := by
  unfold headOf; pointwise [k0_pay15, k0_pay7, lanes]
  exact pick_high l _ _ fun h => congrArg (fun k => q (ix2 n k)) (Fin.ext (by dsimp only; omega))
theorem pay16_at : k0_pay16 q (k0_pay7 lanes 64#32) (ix4 z w n l) = headOf q 7 n l := by
  unfold headOf; pointwise [k0_pay16, k0_pay7, lanes]
  exact pick_high l _ _ fun h => congrArg (fun k => q (ix2 n k)) (Fin.ext (by dsimp only; omega))

/-- An index of one head's block, by its coordinates. -/
theorem block_index (x : S1x1x512x128.Idx) : ∃ (z w : Fin 1) (n : Fin 512) (l : Fin 128), x = ix4 z w n l :=
  ⟨x 0, x 1, x 2, x 3, by funext a; fin_cases a <;> rfl⟩

/-- Where a head's store lies in the queries' block. -/
theorem headOf_place (h : Fin 8) (inb) :
    headOf q h n l = (fun y : S1x8x512x128.Idx => headOf q (y 1) (y 2) (y 3)) ((Rect.unit (s := S1x8x512x128) ![0, h.val, 0, 0] S1x1x512x128.size inb).emb (ix4 z w n l)) := by
  have e : (Rect.unit (s := S1x8x512x128) ![0, h.val, 0, 0] S1x1x512x128.size inb).emb (ix4 z w n l) = ix4 0 h n l := by
    funext a; fin_cases a <;> (apply Fin.ext; simp [Rect.emb, Rect.unit, ix4])
  rw [e]
  rfl

/-- The queries' block at an index. -/
theorem y14_at (x0 : Vec Ideal S1x512x1024 .f32) (x1 : Vec Ideal S1x1024 .f32) (x2 : Vec Ideal S1024x3200 .bf16) (h : Fin 8) :
    y14 x0 x1 x2 (ix4 z h n l) = headOf (bQ x0 x1 x2) h n l := by
  unfold y14
  generalize bQ x0 x1 x2 = q
  refine (View.canon_apply_of_pieces (Val := Elt Ideal) (e := .bf16) (fun y : S1x8x512x128.Idx => headOf q (y 1) (y 2) (y 3)) _ ?_ (ix4 z h n l) (View.cover_of_tiledL _ ![1, 1, 512, 128] ?_ _)).trans rfl
  · intro p hp x
    simp only [List.mem_cons, List.not_mem_nil, or_false] at hp
    obtain rfl | rfl | rfl | rfl | rfl | rfl | rfl | rfl := hp
    all_goals obtain ⟨z, w, n, l, rfl⟩ := block_index x
    · exact (pay16_at q z w n l).trans (headOf_place q z w n l 7 inb_S1x8x512x128_S1x1x512x128_0_7_0_0)
    · exact (pay15_at q z w n l).trans (headOf_place q z w n l 6 inb_S1x8x512x128_S1x1x512x128_0_6_0_0)
    · exact (pay14_at q z w n l).trans (headOf_place q z w n l 5 inb_S1x8x512x128_S1x1x512x128_0_5_0_0)
    · exact (pay13_at q z w n l).trans (headOf_place q z w n l 4 inb_S1x8x512x128_S1x1x512x128_0_4_0_0)
    · exact (pay12_at q z w n l).trans (headOf_place q z w n l 3 inb_S1x8x512x128_S1x1x512x128_0_3_0_0)
    · exact (pay10_at q z w n l).trans (headOf_place q z w n l 2 inb_S1x8x512x128_S1x1x512x128_0_2_0_0)
    · exact (pay9_at q z w n l).trans (headOf_place q z w n l 1 inb_S1x8x512x128_S1x1x512x128_0_1_0_0)
    · exact (pay8_at q z w n l).trans (headOf_place q z w n l 0 inb_S1x8x512x128_S1x1x512x128_0_0_0_0)
  · sl_kernel_rfl

end Cert.Inproj
-- ==== Proof.Inproj.Val.lean ====
module

public import proofs.«01_k».proof.Proof.Inproj.Heads

set_option maxRecDepth 16384

@[expose] public section

noncomputable section

/-! What the body leaves in each output's buffer, read at a row and a channel, in the terms of one position's arithmetic. -/

namespace Cert.Inproj

open Cert.Kernel3Ideal Cert.Kernel3Ideal.Gen
open Idealize.ShloMosaic Idealize.ShloMosaic.TcCoe

/-- The lower and the upper 64 of 128. -/
def lo64 (i : Fin 64) : Fin 128 := ⟨i.val, by omega⟩
def hi64 (i : Fin 64) : Fin 128 := ⟨64 + i.val, by omega⟩

/-- A sum over 128 is the sums over its halves. -/
theorem sum_halves (f : Fin 128 → EReal) : ∑ i : Fin 128, f i = ∑ i : Fin 64, f (lo64 i) + ∑ i : Fin 64, f (hi64 i) :=
  Fin.sum_univ_add (a := 64) (b := 64) f

/-- A sum against the table's column is the sum over the channel's head. -/
theorem sum_head (f : Fin 512 → EReal) (c : Fin 512) :
    ∑ i : Fin 512, f i * (if i.val / 64 = c.val / 64 then 1 else 0) = ∑ e : Fin 64, f (inHead c e) := by
  have h : ∀ i : Fin 512, f i * (if i.val / 64 = c.val / 64 then 1 else 0) = if i.val / 64 = c.val / 64 then f i else 0 := by
    intro i; split <;> simp
  simp only [h]
  rw [← Finset.sum_filter]
  refine Finset.sum_bij' (fun i _ => (⟨i.val % 64, by omega⟩ : Fin 64)) (fun e _ => inHead c e) (fun _ _ => Finset.mem_univ _) ?_ ?_ ?_ ?_
  · intro e _; simp only [Finset.mem_filter, Finset.mem_univ, true_and, inHead]; omega
  · intro i hi; simp only [Finset.mem_filter, Finset.mem_univ, true_and] at hi; apply Fin.ext; simp only [inHead]; omega
  · intro e _; apply Fin.ext; simp only [inHead]; omega
  · intro i hi; simp only [Finset.mem_filter, Finset.mem_univ, true_and] at hi; congr 1; apply Fin.ext; simp only [inHead]; omega

variable (x0 : Vec Ideal S1x512x1024 .f32) (x1 : Vec Ideal S1x1024 .f32) (x2 : Vec Ideal S1024x3200 .bf16) (x3 : Vec Ideal S1x128 .f32) (x4 : Vec Ideal S1x1792 .f32)
  (x5 : Vec Ideal S1x512 .f32) (x6 : Vec Ideal S128x512 .bf16) (x7 : Vec Ideal S1x512 .f32) (x8 : Vec Ideal S128x512 .bf16) (x9 : Vec Ideal S128x512 .bf16)
  (x10 x11 x12 : Vec Ideal S1x512 .f32) (x13 : Vec Ideal S512x512 .bf16) (p : Vec Ideal S8x1792 .f32)
  (z : Fin 1) (n c : Fin 512) (l : Fin 128)

/-- The whole projected row, over the prepared weights. -/
def wide : Fin 3200 → EReal := proj (fun j => x0 (ix3 0 n j)) (fun j => x1 (ix2 0 j)) (fun j k => x2 (ix2 j k))

theorem bZ_at (c : Fin 1792) : bZ x0 x1 x2 (ix2 n c) = wide x0 x1 x2 n ⟨1408 + c.val, by omega⟩ := by
  unfold bZ wide
  rw [pay4_at]
  simp only [wTail_at]
  rfl

theorem bQ_at : bQ x0 x1 x2 (ix2 n c) = wide x0 x1 x2 n ⟨c.val, by omega⟩ * Ideal.ofBits .f32 0x3E000000#32 := by
  unfold bQ wide
  rw [pay6_at]
  simp only [wQ_at]
  rfl

/-- The rows carried to the next tile are the tile's last eight. -/
theorem carry_at (c : Fin 1792) : carry x0 x1 x2 (ix2 7 c) = wide x0 x1 x2 511 ⟨1408 + c.val, by omega⟩ := by
  rw [← bZ_at]
  unfold carry bZ
  exact pay5_at _ _ _ _ _

/-- The keys' and values' columns. -/
theorem kv_at (k : Fin 768) : k0_pay17 (bH x0 x1) (wKv x2) (ix2 n k) = wide x0 x1 x2 n ⟨512 + k.val, by omega⟩ := by
  unfold wide proj
  simp only [← pay3_at, ← wKv_at]
  unfold bH
  pointwise [k0_pay17]
theorem y15_at : y15 x0 x1 x2 (ix3 z n l) = wide x0 x1 x2 n ⟨512 + l.val, by omega⟩ := by
  unfold y15; pointwise [k0_pay18]; rw [kv_at]
theorem y16_at : y16 x0 x1 x2 (ix3 z n l) = wide x0 x1 x2 n ⟨640 + l.val, by omega⟩ := by
  unfold y16; pointwise [k0_pay19]; rw [kv_at]; congr 1; exact Fin.ext (by dsimp only; omega)
theorem y17_at : y17 x0 x1 x2 (ix3 z n l) = wide x0 x1 x2 n ⟨768 + l.val, by omega⟩ := by
  unfold y17; pointwise [k0_pay20]; rw [kv_at]; congr 1; exact Fin.ext (by dsimp only; omega)
theorem y18_at : y18 x0 x1 x2 (ix3 z n l) = wide x0 x1 x2 n ⟨896 + l.val, by omega⟩ := by
  unfold y18; pointwise [k0_pay21]; rw [kv_at]; congr 1; exact Fin.ext (by dsimp only; omega)
theorem y19_at : y19 x0 x1 x2 (ix3 z n l) = wide x0 x1 x2 n ⟨1024 + l.val, by omega⟩ := by
  unfold y19; pointwise [k0_pay23, k0_pay22]; rw [kv_at]; congr 1; exact Fin.ext (by dsimp only; omega)
theorem y20_at : y20 x0 x1 x2 (ix3 z n l) = wide x0 x1 x2 n ⟨1152 + l.val, by omega⟩ := by
  unfold y20; pointwise [k0_pay24]; rw [kv_at]; congr 1; exact Fin.ext (by dsimp only; omega)

/-- The gates. -/
theorem y21_at : y21 x0 x1 x2 x3 (ix3 z n l) = logistic (wide x0 x1 x2 n ⟨1280 + l.val, by omega⟩ + x3 (ix2 0 l)) := by
  unfold y21 wide proj
  rw [pay25_at]
  simp only [← pay3_at, ← wGate_at]
  rfl

/-- The mixed row. -/
def mixedRow (c : Fin 1792) : EReal := k0_pay27 (bZ x0 x1 x2) (bD x0 x1 x2 p) x4 (ix2 n c)

theorem mixedRow_eq : mixedRow x0 x1 x2 x4 p n = mixed (fun c => wide x0 x1 x2 n ⟨1408 + c.val, by omega⟩)
    (fun c => if h : n.val = 0 then p (ix2 7 c) else wide x0 x1 x2 ⟨n.val - 1, by omega⟩ ⟨1408 + c.val, by omega⟩) (fun c => x4 (ix2 0 c)) := by
  funext c
  unfold mixedRow mixed bD
  rw [pay27_at, pay26_at, row7_at]
  simp only [bZ_at]

theorem bR_at : bR x0 x1 x2 x4 p (ix2 n c) = rOf (mixedRow x0 x1 x2 x4 p n) c := by
  unfold bR rOf mixedRow; pointwise [k0_pay28]
theorem bK_at : bK x0 x1 x2 x4 p (ix2 n c) = kOf (mixedRow x0 x1 x2 x4 p n) c := by
  unfold bK kOf mixedRow; pointwise [k0_pay29]
theorem bV_at : bV x0 x1 x2 x4 p (ix2 n c) = vOf (mixedRow x0 x1 x2 x4 p n) c := by
  unfold bV vOf mixedRow; pointwise [k0_pay30]
theorem bG_at : bG x0 x1 x2 x4 p (ix2 n l) = mixedRow x0 x1 x2 x4 p n ⟨1664 + l.val, by omega⟩ := by
  unfold bG mixedRow; pointwise [k0_pay32]

theorem y22_at : y22 x0 x1 x2 x4 p (ix3 z n c) = rOf (mixedRow x0 x1 x2 x4 p n) c := by
  unfold y22; pointwise [k0_pay38]; rw [bR_at]
theorem y25_at : y25 x0 x1 x2 x4 p (ix3 z n c) = vOf (mixedRow x0 x1 x2 x4 p n) c := by
  unfold y25; pointwise [k0_pay41]; rw [bV_at]

/-- The log decay, its weights in the lower half of the padded ones. -/
theorem y23_at (wl : Fin 64 → Fin 512 → EReal) (hl : ∀ i c, x6 (ix2 (lo64 i) c) = wl i c) (hh : ∀ i c, x6 (ix2 (hi64 i) c) = (0 : EReal)) :
    y23 x0 x1 x2 x4 x5 x6 p (ix3 z n c) = logDecay (decay (mixedRow x0 x1 x2 x4 p n) (fun c => x5 (ix2 0 c)) wl c) := by
  unfold y23 logDecay
  rw [pay39_at, pay33_at _ _ _ _ _ _ _ _ ?_]
  unfold decay
  rw [sum_halves]
  simp only [hl, hh, mul_zero, Finset.sum_const_zero, add_zero]
  rfl

/-- The learning rate, its weights in the upper half of the padded ones. -/
theorem bA_at (al : Fin 64 → Fin 512 → EReal) (hl : ∀ i c, x8 (ix2 (lo64 i) c) = (0 : EReal)) (hh : ∀ i c, x8 (ix2 (hi64 i) c) = al i c) :
    Ideal.div 1 (bL x0 x1 x2 x4 x7 x8 p (ix2 n c)) = rate (mixedRow x0 x1 x2 x4 p n) (fun c => x7 (ix2 0 c)) al c := by
  unfold bL rate logistic
  rw [pay34_at, sum_halves]
  simp only [hl, hh, mul_zero, Finset.sum_const_zero, zero_add]
  have e : ∀ i : Fin 64, (⟨1536 + (hi64 i).val, by unfold hi64; dsimp only; omega⟩ : Fin 1792) = ⟨1600 + i.val, by omega⟩ :=
    fun i => Fin.ext (by unfold hi64; dsimp only; omega)
  simp only [e]
  rfl

/-- The output gate. -/
theorem y28_at : y28 x0 x1 x2 x4 x9 p (ix3 z n c) = outGate (mixedRow x0 x1 x2 x4 p n) (fun i c => x9 (ix2 i c)) c := by
  unfold y28 outGate
  rw [pay44_at]
  simp only [bG_at]

/-- The removal key. -/
theorem bKk_at (ht : ∀ i j, x13 (ix2 i j) = if i.val / 64 = j.val / 64 then (1 : EReal) else 0) :
    bKk x0 x1 x2 x4 x10 x13 p (ix2 n c) = removal (mixedRow x0 x1 x2 x4 p n) (fun c => x10 (ix2 0 c)) c := by
  unfold bKk removal
  rw [pay36_at]
  simp only [ht, bK_at]
  rw [sum_head]
theorem y26_at (ht : ∀ i j, x13 (ix2 i j) = if i.val / 64 = j.val / 64 then (1 : EReal) else 0) :
    y26 x0 x1 x2 x4 x10 x13 p (ix3 z n c) = removal (mixedRow x0 x1 x2 x4 p n) (fun c => x10 (ix2 0 c)) c := by
  unfold y26; pointwise [k0_pay42]; rw [bKk_at _ _ _ _ _ _ _ _ _ ht]
theorem y27_at (al : Fin 64 → Fin 512 → EReal) (hl : ∀ i c, x8 (ix2 (lo64 i) c) = (0 : EReal)) (hh : ∀ i c, x8 (ix2 (hi64 i) c) = al i c)
    (ht : ∀ i j, x13 (ix2 i j) = if i.val / 64 = j.val / 64 then (1 : EReal) else 0) :
    y27 x0 x1 x2 x4 x7 x8 x10 x13 p (ix3 z n c)
      = removal (mixedRow x0 x1 x2 x4 p n) (fun c => x10 (ix2 0 c)) c * rate (mixedRow x0 x1 x2 x4 p n) (fun c => x7 (ix2 0 c)) al c := by
  unfold y27 bA
  rw [← bA_at _ _ _ _ _ _ _ _ _ al hl hh, ← bKk_at _ _ _ _ _ _ _ _ _ ht, ← pay35_at]
  pointwise [k0_pay43]

/-- The replacement key. -/
theorem bK2_at (al : Fin 64 → Fin 512 → EReal) (hl : ∀ i c, x8 (ix2 (lo64 i) c) = (0 : EReal)) (hh : ∀ i c, x8 (ix2 (hi64 i) c) = al i c) :
    bK2 x0 x1 x2 x4 x7 x8 x11 p (ix2 n c)
      = key (mixedRow x0 x1 x2 x4 p n) (rate (mixedRow x0 x1 x2 x4 p n) (fun c => x7 (ix2 0 c)) al) (fun c => x11 (ix2 0 c)) c := by
  unfold bK2 key
  rw [pay37_at, bA_at _ _ _ _ _ _ _ _ _ al hl hh, bK_at]
theorem y24_at (al : Fin 64 → Fin 512 → EReal) (hl : ∀ i c, x8 (ix2 (lo64 i) c) = (0 : EReal)) (hh : ∀ i c, x8 (ix2 (hi64 i) c) = al i c) :
    y24 x0 x1 x2 x4 x7 x8 x11 p (ix3 z n c)
      = key (mixedRow x0 x1 x2 x4 p n) (rate (mixedRow x0 x1 x2 x4 p n) (fun c => x7 (ix2 0 c)) al) (fun c => x11 (ix2 0 c)) c := by
  unfold y24; pointwise [k0_pay40]; rw [bK2_at _ _ _ _ _ _ _ _ _ _ al hl hh]

/-- The bonus. -/
theorem y29_at (al : Fin 64 → Fin 512 → EReal) (hl : ∀ i c, x8 (ix2 (lo64 i) c) = (0 : EReal)) (hh : ∀ i c, x8 (ix2 (hi64 i) c) = al i c)
    (ht : ∀ i j, x13 (ix2 i j) = if i.val / 64 = j.val / 64 then (1 : EReal) else 0) :
    y29 x0 x1 x2 x4 x7 x8 x11 x12 x13 p (ix3 z n c)
      = bonus (mixedRow x0 x1 x2 x4 p n) (key (mixedRow x0 x1 x2 x4 p n) (rate (mixedRow x0 x1 x2 x4 p n) (fun c => x7 (ix2 0 c)) al) (fun c => x11 (ix2 0 c)))
          (fun c => x12 (ix2 0 c)) c := by
  unfold y29 bonus
  rw [pay1_at]
  simp only [ht, pay45_at, bV_at, bR_at, bK2_at _ _ _ _ _ _ _ _ _ _ al hl hh]
  rw [sum_head]

end Cert.Inproj
-- ==== Proof.Inproj.In.lean ====
module

public import proofs.«01_k».proof.Proof.Inproj.Frame
public import proofs.«01_k».proof.Proof.Inproj.Table
public import proofs.«01_k».proof.Proof.Inproj.Val
public import Idealize.ShloMosaic.Lib.StableHlo.RunRead

set_option maxRecDepth 16384
set_option maxHeartbeats 1000000

@[expose] public section

noncomputable section

/-! The blocks that a grid point of the input projection reads, in terms of the arguments. -/

namespace Cert.Inproj

open Idealize.ShloMosaic Idealize.ShloMosaic.TcCoe Idealize.SL.Sem
open Cert.Kernel3Ideal Cert.Kernel3Ideal.Gen

variable (m : (ℓ : Loc nD τ sig) → Buf (Elt Ideal) ℓ)

/-- Where each input window's block lies at each grid point. -/
theorem idxIn : ∀ t : Fin cfg0.N, win0_0.index t = ![t.val / 8, t.val % 8, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0] ∧ t.val / 8 < 16 :=
  (by decide +kernel : ∀ t : Fin grid0.N, _)

/-- The sequence a grid point works on. -/
def seqOf (t : Fin cfg0.N) : Fin 16 := ⟨t.val / 8, (idxIn t).2.2.2.2.2.2.2.2.2.2.2.2.2.2⟩
/-- The position of row `n` of a grid point's block. -/
def posOf (t : Fin cfg0.N) (n : Fin 512) : Fin 4096 := ⟨t.val % 8 * 512 + n.val, by omega⟩

variable (c : Dev nD) (t : Fin cfg0.N) (z : Fin 1)

theorem in0 (n : Fin 512) (j : Fin 1024) :
    (iblk m c 0 t : Vec Ideal S1x512x1024 .f32) (ix3 z n j) = (m ((c : Thread nD τ).loc main_arg0) : Vec Ideal S16x4096x1024 .f32) (ix3 (seqOf t) (posOf t n) j) := by
  unfold seqOf posOf; blk_ext! [iblk, V, idxIn t]
theorem in1 (j : Fin 1024) :
    (iblk m c 1 t : Vec Ideal S1x1024 .f32) (ix2 z j) = (m ((c : Thread nD τ).loc main_arg1) : Vec Ideal S1024 .f32) (ix1 j) := by
  have h : (iblk m c 1 t : Vec Ideal S1x1024 .f32) (ix2 z j) = (V m c main_v21 : Vec Ideal S1x1024 .f32) (ix2 z j) := by
    blk_ext! [iblk, idxIn t]
  rw [h]
  simp only [V, hostOps0, hostOps0_1, hostOps0_2, hostOps0_3, hostOps0_4, List.flatten_cons, List.flatten_nil, List.append_nil, List.cons_append, List.nil_append]
  after_reads_simp
  pointwise
theorem in4 (j : Fin 1792) :
    (iblk m c 4 t : Vec Ideal S1x1792 .f32) (ix2 z j) = (m ((c : Thread nD τ).loc main_arg4) : Vec Ideal S1792 .f32) (ix1 j) := by
  have h : (iblk m c 4 t : Vec Ideal S1x1792 .f32) (ix2 z j) = (V m c main_v14 : Vec Ideal S1x1792 .f32) (ix2 z j) := by
    blk_ext! [iblk, idxIn t]
  rw [h]
  simp only [V, hostOps0, hostOps0_1, hostOps0_2, hostOps0_3, hostOps0_4, List.flatten_cons, List.flatten_nil, List.append_nil, List.cons_append, List.nil_append]
  after_reads_simp
  pointwise
theorem in5 (j : Fin 512) :
    (iblk m c 5 t : Vec Ideal S1x512 .f32) (ix2 z j) = (m ((c : Thread nD τ).loc main_arg5) : Vec Ideal S512 .f32) (ix1 j) := by
  have h : (iblk m c 5 t : Vec Ideal S1x512 .f32) (ix2 z j) = (V m c main_v15 : Vec Ideal S1x512 .f32) (ix2 z j) := by
    blk_ext! [iblk, idxIn t]
  rw [h]
  simp only [V, hostOps0, hostOps0_1, hostOps0_2, hostOps0_3, hostOps0_4, List.flatten_cons, List.flatten_nil, List.append_nil, List.cons_append, List.nil_append]
  after_reads_simp
  pointwise
theorem in7 (j : Fin 512) :
    (iblk m c 7 t : Vec Ideal S1x512 .f32) (ix2 z j) = (m ((c : Thread nD τ).loc main_arg7) : Vec Ideal S512 .f32) (ix1 j) := by
  have h : (iblk m c 7 t : Vec Ideal S1x512 .f32) (ix2 z j) = (V m c main_v16 : Vec Ideal S1x512 .f32) (ix2 z j) := by
    blk_ext! [iblk, idxIn t]
  rw [h]
  simp only [V, hostOps0, hostOps0_1, hostOps0_2, hostOps0_3, hostOps0_4, List.flatten_cons, List.flatten_nil, List.append_nil, List.cons_append, List.nil_append]
  after_reads_simp
  pointwise
theorem in9 (i : Fin 128) (j : Fin 512) :
    (iblk m c 9 t : Vec Ideal S128x512 .bf16) (ix2 i j) = (m ((c : Thread nD τ).loc main_arg9) : Vec Ideal S128x512 .f32) (ix2 i j) := by
  blk_point [iblk, V, idxIn t]
theorem in10 (j : Fin 512) :
    (iblk m c 10 t : Vec Ideal S1x512 .f32) (ix2 z j) = (m ((c : Thread nD τ).loc main_arg10) : Vec Ideal S512 .f32) (ix1 j) := by
  have h : (iblk m c 10 t : Vec Ideal S1x512 .f32) (ix2 z j) = (V m c main_v18 : Vec Ideal S1x512 .f32) (ix2 z j) := by
    blk_ext! [iblk, idxIn t]
  rw [h]
  simp only [V, hostOps0, hostOps0_1, hostOps0_2, hostOps0_3, hostOps0_4, List.flatten_cons, List.flatten_nil, List.append_nil, List.cons_append, List.nil_append]
  after_reads_simp
  pointwise
theorem in11 (j : Fin 512) :
    (iblk m c 11 t : Vec Ideal S1x512 .f32) (ix2 z j) = (m ((c : Thread nD τ).loc main_arg11) : Vec Ideal S512 .f32) (ix1 j) := by
  have h : (iblk m c 11 t : Vec Ideal S1x512 .f32) (ix2 z j) = (V m c main_v19 : Vec Ideal S1x512 .f32) (ix2 z j) := by
    blk_ext! [iblk, idxIn t]
  rw [h]
  simp only [V, hostOps0, hostOps0_1, hostOps0_2, hostOps0_3, hostOps0_4, List.flatten_cons, List.flatten_nil, List.append_nil, List.cons_append, List.nil_append]
  after_reads_simp
  pointwise
theorem in12 (j : Fin 512) :
    (iblk m c 12 t : Vec Ideal S1x512 .f32) (ix2 z j) = (m ((c : Thread nD τ).loc main_arg12) : Vec Ideal S8x64 .f32) (ix2 ⟨j.val / 64, by omega⟩ ⟨j.val % 64, by omega⟩) := by
  have h : (iblk m c 12 t : Vec Ideal S1x512 .f32) (ix2 z j) = (V m c main_v20 : Vec Ideal S1x512 .f32) (ix2 z j) := by
    blk_ext! [iblk, idxIn t]
  rw [h]
  simp only [V, hostOps0, hostOps0_1, hostOps0_2, hostOps0_3, hostOps0_4, List.flatten_cons, List.flatten_nil, List.append_nil, List.cons_append, List.nil_append]
  after_reads_simp
  pointwise

/-- The number zero from the integer. -/
theorem zero_of_int : (FloatOps.sitofp (F := Ideal) .f32 0#32 : EReal) = 0 := by
  show ((((0#32 : BitVec 32).toInt : ℝ)) : EReal) = 0; simp

/-- A short row padded with zeros. -/
theorem padRow_at (x : Vec Ideal S24 .f32) (l : Fin 128) :
    (pad S128 ![0] ![104] ![0] x (sitofp (F := Ideal) .f32 (constantI S_ 32 0#32) : Vec Ideal S_ .f32) pads_S24_S128_01040 h_S_ : Vec Ideal S128 .f32) (ix1 l)
      = (if h : l.val < 24 then x (ix1 ⟨l.val, h⟩) else (0 : EReal) : EReal) := by
  pointwise
  by_cases h : l.val < 24
  · rw [dif_pos h, dif_pos h]
  · rw [dif_neg h, dif_neg h, zero_of_int]

/-- Columns padded with zeros. -/
theorem padCols_at (x : Vec Ideal S1024x24 .f32) (j : Fin 1024) (k : Fin 128) :
    (pad S1024x128 ![0, 0] ![0, 104] ![0, 0] x (sitofp (F := Ideal) .f32 (constantI S_ 32 0#32) : Vec Ideal S_ .f32) pads_S1024x24_S1024x128_000_01040 h_S_ : Vec Ideal S1024x128 .f32) (ix2 j k)
      = (if h : k.val < 24 then x (ix2 j ⟨k.val, h⟩) else (0 : EReal) : EReal) := by
  pointwise
  by_cases h : k.val < 24
  · rw [dif_pos h, dif_pos h]
  · rw [dif_neg h, dif_neg h, zero_of_int]

/-- The weights' columns as the call takes them: the attention's, the gates' padded with zeros, the recurrence's. -/
theorem in2 (j : Fin 1024) (k : Fin 3200) :
    (iblk m c 2 t : Vec Ideal S1024x3200 .bf16) (ix2 j k) = (V m c main_v5 : Vec Ideal S1024x3200 .bf16) (ix2 j k) := by
  blk_ext! [iblk, idxIn t]
theorem in2_front (j : Fin 1024) (k : Fin 1280) :
    (iblk m c 2 t : Vec Ideal S1024x3200 .bf16) (ix2 j ⟨k.val, by omega⟩) = (m ((c : Thread nD τ).loc main_arg2) : Vec Ideal S1024x3096 .f32) (ix2 j ⟨k.val, by omega⟩) := by
  rw [in2]
  simp only [V, hostOps0, hostOps0_1, hostOps0_2, hostOps0_3, hostOps0_4, List.flatten_cons, List.flatten_nil, List.append_nil, List.cons_append, List.nil_append]
  after_reads_simp
  pointwise
  show StableHlo.upto _ _ 7 (Proc.devRef .tc main_v2) _ = _
  after_reads_simp
  pointwise
theorem in2_gate (j : Fin 1024) (k : Fin 128) :
    (iblk m c 2 t : Vec Ideal S1024x3200 .bf16) (ix2 j ⟨1280 + k.val, by omega⟩)
      = (if h : k.val < 24 then (m ((c : Thread nD τ).loc main_arg2) : Vec Ideal S1024x3096 .f32) (ix2 j ⟨1280 + k.val, by omega⟩) else (0 : EReal) : EReal) := by
  rw [in2]
  simp only [V, hostOps0, hostOps0_1, hostOps0_2, hostOps0_3, hostOps0_4, List.flatten_cons, List.flatten_nil, List.append_nil, List.cons_append, List.nil_append]
  after_reads_simp
  pointwise
  show StableHlo.upto _ _ 7 (Proc.devRef .tc main_v1) _ = _
  after_reads_simp
  refine (padCols_at _ j k).trans ?_
  by_cases h : k.val < 24
  · rw [dif_pos h, dif_pos h]
    change (extractStridedSlice S1024x24 ![0, 1280] (m ((c : Thread nD τ).loc main_arg2) : Vec Ideal S1024x3096 .f32) slices_S1024x3096_S1024x24_0_1280 : Vec Ideal S1024x24 .f32) (ix2 j ⟨k.val, h⟩) = _
    pointwise
  · rw [dif_neg h, dif_neg h]
theorem in2_tail (j : Fin 1024) (k : Fin 1792) :
    (iblk m c 2 t : Vec Ideal S1024x3200 .bf16) (ix2 j ⟨1408 + k.val, by omega⟩) = (m ((c : Thread nD τ).loc main_arg2) : Vec Ideal S1024x3096 .f32) (ix2 j ⟨1304 + k.val, by omega⟩) := by
  rw [in2]
  simp only [V, hostOps0, hostOps0_1, hostOps0_2, hostOps0_3, hostOps0_4, List.flatten_cons, List.flatten_nil, List.append_nil, List.cons_append, List.nil_append]
  after_reads_simp
  pointwise
  rw [dif_neg (by omega), dif_neg (by omega)]
  show StableHlo.upto _ _ 7 (Proc.devRef .tc main_v3) _ = _
  after_reads_simp
  pointwise
  congr 2; exact Fin.ext (by show 1304 + (1408 + k.val - 1280 - 128) = 1304 + k.val; omega)

/-- The gates' biases, zero beyond the 24. -/
theorem in3 (l : Fin 128) :
    (iblk m c 3 t : Vec Ideal S1x128 .f32) (ix2 z l)
      = (if h : l.val < 24 then (m ((c : Thread nD τ).loc main_arg3) : Vec Ideal S24 .f32) (ix1 ⟨l.val, h⟩) else (0 : EReal) : EReal) := by
  have h : (iblk m c 3 t : Vec Ideal S1x128 .f32) (ix2 z l) = (V m c main_v7 : Vec Ideal S1x128 .f32) (ix2 z l) := by
    blk_ext! [iblk, idxIn t]
  rw [h]
  simp only [V, hostOps0, hostOps0_1, hostOps0_2, hostOps0_3, hostOps0_4, List.flatten_cons, List.flatten_nil, List.append_nil, List.cons_append, List.nil_append]
  after_reads_simp
  pointwise
  exact padRow_at _ l

/-- The decay's weights, in the lower half. -/
theorem in6 (i : Fin 128) (j : Fin 512) :
    (iblk m c 6 t : Vec Ideal S128x512 .bf16) (ix2 i j) = (V m c main_v10 : Vec Ideal S128x512 .bf16) (ix2 i j) := by
  blk_ext! [iblk, idxIn t]
theorem in6_lo (i : Fin 64) (j : Fin 512) :
    (iblk m c 6 t : Vec Ideal S128x512 .bf16) (ix2 (lo64 i) j) = (m ((c : Thread nD τ).loc main_arg6) : Vec Ideal S64x512 .f32) (ix2 i j) := by
  rw [in6]
  unfold lo64
  simp only [V, hostOps0, hostOps0_1, hostOps0_2, hostOps0_3, hostOps0_4, List.flatten_cons, List.flatten_nil, List.append_nil, List.cons_append, List.nil_append]
  after_reads_simp
  pointwise
  after_reads_simp
theorem in6_hi (i : Fin 64) (j : Fin 512) :
    (iblk m c 6 t : Vec Ideal S128x512 .bf16) (ix2 (hi64 i) j) = (0 : EReal) := by
  rw [in6]
  unfold hi64
  simp only [V, hostOps0, hostOps0_1, hostOps0_2, hostOps0_3, hostOps0_4, List.flatten_cons, List.flatten_nil, List.append_nil, List.cons_append, List.nil_append]
  after_reads_simp
  pointwise
  after_reads_simp
  pointwise
/-- The learning rate's weights, in the upper half. -/
theorem in8 (i : Fin 128) (j : Fin 512) :
    (iblk m c 8 t : Vec Ideal S128x512 .bf16) (ix2 i j) = (V m c main_v13 : Vec Ideal S128x512 .bf16) (ix2 i j) := by
  blk_ext! [iblk, idxIn t]
theorem in8_lo (i : Fin 64) (j : Fin 512) :
    (iblk m c 8 t : Vec Ideal S128x512 .bf16) (ix2 (lo64 i) j) = (0 : EReal) := by
  rw [in8]
  unfold lo64
  simp only [V, hostOps0, hostOps0_1, hostOps0_2, hostOps0_3, hostOps0_4, List.flatten_cons, List.flatten_nil, List.append_nil, List.cons_append, List.nil_append]
  after_reads_simp
  pointwise
  after_reads_simp
  pointwise
theorem in8_hi (i : Fin 64) (j : Fin 512) :
    (iblk m c 8 t : Vec Ideal S128x512 .bf16) (ix2 (hi64 i) j) = (m ((c : Thread nD τ).loc main_arg8) : Vec Ideal S64x512 .f32) (ix2 i j) := by
  rw [in8]
  unfold hi64
  simp only [V, hostOps0, hostOps0_1, hostOps0_2, hostOps0_3, hostOps0_4, List.flatten_cons, List.flatten_nil, List.append_nil, List.cons_append, List.nil_append]
  after_reads_simp
  pointwise
  after_reads_simp

/-- The table of the heads. -/
theorem in13 (i j : Fin 512) :
    (iblk m c 13 t : Vec Ideal S512x512 .bf16) (ix2 i j) = if i.val / 64 = j.val / 64 then (1 : EReal) else 0 := by
  have h : (iblk m c 13 t : Vec Ideal S512x512 .bf16) (ix2 i j) = (V m c main_cst : Vec Ideal S512x512 .bf16) (ix2 i j) := by
    blk_ext! [iblk, idxIn t]
  rw [h]
  simp only [V, hostOps0, hostOps0_1, hostOps0_2, hostOps0_3, hostOps0_4, List.flatten_cons, List.flatten_nil, List.append_nil, List.cons_append, List.nil_append]
  after_reads_simp
  have hij : 512 * i.val + j.val < 262144 := by omega
  have hr : S512x512.rowMajor (ix2 i j) = ⟨512 * i.val + j.val, hij⟩ := by
    apply Fin.ext
    rw [Shape.rowMajor_val_two]
    change i.val * 512 + j.val = 512 * i.val + j.val
    omega
  rw [hr, table_at i j hij]
  split
  · exact Ideal.ofBits_one_bf16
  · exact Ideal.ofBits_zero_bf16

end Cert.Inproj
-- ==== Proof.Inproj.Ref.lean ====
module

public import proofs.«01_k».proof.Proof.Gen.Reference3Ideal.Run
public import proofs.«01_k».proof.Proof.Inproj.Row
public import Idealize.ShloMosaic.Lib.Pipeline.ValueKit

set_option maxRecDepth 16384

@[expose] public section

noncomputable section

/-! The reference's sixteen results, read position by position. Their composed terms are cut into the steps of the model's
    formula, each an array; every step is then read at an index. -/

namespace Cert.Inproj

open Idealize.ShloMosaic Idealize.ShloMosaic.TcCoe Idealize.SL.Sem
open Cert.Reference3Ideal Cert.Reference3Ideal.Gen

/-- The projected rows. -/
def refZ (x : FVec Ideal S16x4096x1024 .f32) (g : FVec Ideal S1024 .f32) (w : FVec Ideal S1024x3096 .f32) : FVec Ideal S16x4096x3096 .f32 :=
  Host.dotGeneral dot_S16x4096x1024_S1024x3096_S16x4096x3096_2_0_01_1_n_n none (mulf (mulf x (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf x x) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 g))) w

/-- The queries, head by head and scaled. -/
def refHeads (z : FVec Ideal S16x4096x3096 .f32) : FVec Ideal S16x8x4096x64 .f32 :=
  mulf (transpose S16x8x4096x64 [0, 2, 1, 3] (shapeCast _ (extractStridedSlice S16x4096x512 ![0, 0, 0] z slices_S16x4096x3096_S16x4096x512_0_0_0) shapeCasts_S16x4096x512_S16x4096x8x64) transposes_S16x4096x8x64_S16x8x4096x64_0_2_1_3) (broadcastInDim S16x8x4096x64 ![] bcast_S_S16x8x4096x64 (constant S_ .f32 0x3E000000#32))

/-- A block of zeros. -/
def refNo : FVec Ideal S16x4x4096x64 .f32 := broadcastInDim S16x4x4096x64 ![] bcast_S_S16x4x4096x64 (constant S_ .f32 0x00000000#32)

/-- The queries in the layout of the attention. -/
def refQ (z : FVec Ideal S16x4096x3096 .f32) : FVec Ideal S16x8x4096x128 .bf16 :=
  truncf .bf16 (concatenate S16x8x4096x128 1 [⟨S16x4x4096x128, (concatenate S16x4x4096x128 3 [⟨S16x4x4096x64, (extractStridedSlice S16x4x4096x64 ![0, 0, 0, 0] (refHeads z) slices_S16x8x4096x64_S16x4x4096x64_0_0_0_0)⟩, ⟨S16x4x4096x64, refNo⟩] concatenates_S16x4x4096x64_S16x4x4096x64_S16x4x4096x128_d3)⟩, ⟨S16x4x4096x128, (concatenate S16x4x4096x128 3 [⟨S16x4x4096x64, refNo⟩, ⟨S16x4x4096x64, (extractStridedSlice S16x4x4096x64 ![0, 4, 0, 0] (refHeads z) slices_S16x8x4096x64_S16x4x4096x64_0_4_0_0)⟩] concatenates_S16x4x4096x64_S16x4x4096x64_S16x4x4096x128_d3)⟩] concatenates_S16x4x4096x128_S16x4x4096x128_S16x8x4096x128_d1) bitsLt_bf16_f32

/-- The keys and values of the three branches. -/
def refKc (z : FVec Ideal S16x4096x3096 .f32) : FVec Ideal S16x4096x128 .f32 := extractStridedSlice S16x4096x128 ![0, 0, 512] z slices_S16x4096x3096_S16x4096x128_0_0_512
def refVc (z : FVec Ideal S16x4096x3096 .f32) : FVec Ideal S16x4096x128 .f32 := extractStridedSlice S16x4096x128 ![0, 0, 640] z slices_S16x4096x3096_S16x4096x128_0_0_640
def refKs (z : FVec Ideal S16x4096x3096 .f32) : FVec Ideal S16x4096x128 .bf16 := truncf .bf16 (extractStridedSlice S16x4096x128 ![0, 0, 768] z slices_S16x4096x3096_S16x4096x128_0_0_768) bitsLt_bf16_f32
def refVs (z : FVec Ideal S16x4096x3096 .f32) : FVec Ideal S16x4096x128 .bf16 := truncf .bf16 (extractStridedSlice S16x4096x128 ![0, 0, 896] z slices_S16x4096x3096_S16x4096x128_0_0_896) bitsLt_bf16_f32
def refKw (z : FVec Ideal S16x4096x3096 .f32) : FVec Ideal S16x4096x128 .bf16 := truncf .bf16 (extractStridedSlice S16x4096x128 ![0, 0, 1024] z slices_S16x4096x3096_S16x4096x128_0_0_1024) bitsLt_bf16_f32
def refVw (z : FVec Ideal S16x4096x3096 .f32) : FVec Ideal S16x4096x128 .bf16 := truncf .bf16 (extractStridedSlice S16x4096x128 ![0, 0, 1152] z slices_S16x4096x3096_S16x4096x128_0_0_1152) bitsLt_bf16_f32

/-- The branch gates. -/
def refGate (z : FVec Ideal S16x4096x3096 .f32) (bias : FVec Ideal S24 .f32) : FVec Ideal S16x4096x128 .f32 :=
  concatenate S16x4096x128 2 [⟨S16x4096x24, (Host.divf (broadcastInDim S16x4096x24 ![] bcast_S_S16x4096x24 (constant S_ .f32 0x3F800000#32)) (addf (broadcastInDim S16x4096x24 ![] bcast_S_S16x4096x24 (constant S_ .f32 0x3F800000#32)) (Host.exp (Host.negf (addf (extractStridedSlice S16x4096x24 ![0, 0, 1280] z slices_S16x4096x3096_S16x4096x24_0_0_1280) (broadcastInDim S16x4096x24 ![0, 1, 2] bcast_S1x1x24_S16x4096x24_0_1_2 (broadcastInDim S1x1x24 ![2] bcast_S24_S1x1x24_2 bias)))))))⟩, ⟨S16x4096x104, (broadcastInDim S16x4096x104 ![] bcast_S_S16x4096x104 (constant S_ .f32 0x3F000000#32))⟩] concatenates_S16x4096x24_S16x4096x104_S16x4096x128_d2

/-- The recurrence's columns. -/
def refTail (z : FVec Ideal S16x4096x3096 .f32) : FVec Ideal S16x4096x1792 .f32 :=
  extractStridedSlice S16x4096x1792 ![0, 0, 1304] z slices_S16x4096x3096_S16x4096x1792_0_0_1304

/-- Each position mixed with the position before it. -/
def refMixed (z : FVec Ideal S16x4096x3096 .f32) (mu : FVec Ideal S1792 .f32) : FVec Ideal S16x4096x1792 .f32 :=
  addf (refTail z) (mulf (subf (extractStridedSlice S16x4096x1792 ![0, 0, 0] (pad S16x4097x1792 ![0, 1, 0] ![0, 0, 0] ![0, 0, 0] (refTail z) (sitofp .f32 (constantI S_ 32 0#32)) pads_S16x4096x1792_S16x4097x1792_000_100_000 h_S_) slices_S16x4097x1792_S16x4096x1792_0_0_0) (refTail z)) (broadcastInDim S16x4096x1792 ![0, 1, 2] bcast_S1x1x1792_S16x4096x1792_0_1_2 (broadcastInDim S1x1x1792 ![2] bcast_S1792_S1x1x1792_2 mu)))

/-- A row of weights repeated at every position. -/
def refRow (w : FVec Ideal S512 .f32) : FVec Ideal S16x4096x512 .f32 :=
  broadcastInDim S16x4096x512 ![0, 1, 2] bcast_S1x1x512_S16x4096x512_0_1_2 (broadcastInDim S1x1x512 ![2] bcast_S512_S1x1x512_2 w)
/-- Zeros, ones, halves. -/
def refZero : FVec Ideal S16x4096x512 .f32 := broadcastInDim S16x4096x512 ![] bcast_S_S16x4096x512 (constant S_ .f32 0x00000000#32)
def refOne : FVec Ideal S16x4096x512 .f32 := broadcastInDim S16x4096x512 ![] bcast_S_S16x4096x512 (constant S_ .f32 0x3F800000#32)

/-- The receptance, key and value channels. -/
def refR (s : FVec Ideal S16x4096x1792 .f32) : FVec Ideal S16x4096x512 .f32 := extractStridedSlice S16x4096x512 ![0, 0, 0] s slices_S16x4096x1792_S16x4096x512_0_0_0
def refK (s : FVec Ideal S16x4096x1792 .f32) : FVec Ideal S16x4096x512 .f32 := extractStridedSlice S16x4096x512 ![0, 0, 512] s slices_S16x4096x1792_S16x4096x512_0_0_512
def refV (s : FVec Ideal S16x4096x1792 .f32) : FVec Ideal S16x4096x512 .f32 := extractStridedSlice S16x4096x512 ![0, 0, 1024] s slices_S16x4096x1792_S16x4096x512_0_0_1024

/-- The decay's exponent. -/
def refDecay (s : FVec Ideal S16x4096x1792 .f32) (w0 : FVec Ideal S512 .f32) (wl : FVec Ideal S64x512 .f32) : FVec Ideal S16x4096x512 .f32 :=
  addf (refRow w0) (Host.dotGeneral dot_S16x4096x64_S64x512_S16x4096x512_2_0_01_1_n_n none (Host.tanh (extractStridedSlice S16x4096x64 ![0, 0, 1536] s slices_S16x4096x1792_S16x4096x64_0_0_1536)) wl)

/-- The log decay. -/
def refLw (w : FVec Ideal S16x4096x512 .f32) : FVec Ideal S16x4096x512 .f32 :=
  Host.negf (Host.exp (subf (Host.negf (select (cmpf .une (subf (Host.negf w) refZero) (subf (Host.negf w) refZero)) (addf (Host.negf w) refZero) (addf (maximumf (Host.negf w) refZero) (Host.log1p (Host.exp (Host.negf (Host.absf (subf (Host.negf w) refZero)))))))) (broadcastInDim S16x4096x512 ![] bcast_S_S16x4096x512 (constant S_ .f32 0x3F000000#32))))

/-- The in-context learning rate. -/
def refRate (s : FVec Ideal S16x4096x1792 .f32) (a0 : FVec Ideal S512 .f32) (al : FVec Ideal S64x512 .f32) : FVec Ideal S16x4096x512 .f32 :=
  Host.divf refOne (addf refOne (Host.exp (Host.negf (addf (refRow a0) (Host.dotGeneral dot_S16x4096x64_S64x512_S16x4096x512_2_0_01_1_n_n none (extractStridedSlice S16x4096x64 ![0, 0, 1600] s slices_S16x4096x1792_S16x4096x64_0_0_1600) al)))))

/-- The output gate. -/
def refOutGate (s : FVec Ideal S16x4096x1792 .f32) (gl : FVec Ideal S128x512 .f32) : FVec Ideal S16x4096x512 .f32 :=
  Host.dotGeneral dot_S16x4096x128_S128x512_S16x4096x512_2_0_01_1_n_n none (Host.divf (broadcastInDim S16x4096x128 ![] bcast_S_S16x4096x128 (constant S_ .f32 0x3F800000#32)) (addf (broadcastInDim S16x4096x128 ![] bcast_S_S16x4096x128 (constant S_ .f32 0x3F800000#32)) (Host.exp (Host.negf (extractStridedSlice S16x4096x128 ![0, 0, 1664] s slices_S16x4096x1792_S16x4096x128_0_0_1664))))) gl

/-- An array of rows cut into heads. -/
def refSplit (u : FVec Ideal S16x4096x512 .f32) : FVec Ideal S16x4096x8x64 .f32 := shapeCast _ u shapeCasts_S16x4096x512_S16x4096x8x64

/-- Rows divided by their heads' norms. -/
def refUnit (u : FVec Ideal S16x4096x8x64 .f32) : FVec Ideal S16x4096x8x64 .f32 :=
  mulf u (broadcastInDim S16x4096x8x64 ![0, 1, 2, 3] bcast_S16x4096x8x1_S16x4096x8x64_0_1_2_3 (Host.rsqrt (maximumf (broadcastInDim S16x4096x8x1 ![0, 1, 2] bcast_S16x4096x8_S16x4096x8x1_0_1_2 (Host.reduceAdd (mulf u u) (constant S_ .f32 0x00000000#32) reducesTo_S16x4096x8x64_S16x4096x8_d3 h_S_)) (broadcastInDim S16x4096x8x1 ![] bcast_S_S16x4096x8x1 (constant S_ .f32 0x179ABE15#32)))))

/-- The removal key, by head. -/
def refKk4 (s : FVec Ideal S16x4096x1792 .f32) (kw : FVec Ideal S512 .f32) : FVec Ideal S16x4096x8x64 .f32 := refUnit (refSplit (mulf (refK s) (refRow kw)))
/-- The removal key. -/
def refKk (s : FVec Ideal S16x4096x1792 .f32) (kw : FVec Ideal S512 .f32) : FVec Ideal S16x4096x512 .f32 :=
  shapeCast _ (refKk4 s kw) shapeCasts_S16x4096x8x64_S16x4096x512
/-- The removal key times the learning rate. -/
def refB (s : FVec Ideal S16x4096x1792 .f32) (kw : FVec Ideal S512 .f32) (a : FVec Ideal S16x4096x512 .f32) : FVec Ideal S16x4096x512 .f32 :=
  shapeCast _ (mulf (refKk4 s kw) (refSplit a)) shapeCasts_S16x4096x8x64_S16x4096x512
/-- The replacement key. -/
def refK2 (s : FVec Ideal S16x4096x1792 .f32) (a : FVec Ideal S16x4096x512 .f32) (ka : FVec Ideal S512 .f32) : FVec Ideal S16x4096x512 .f32 :=
  mulf (refK s) (addf refOne (mulf (subf a refOne) (refRow ka)))
/-- The bonus. -/
def refBv (s : FVec Ideal S16x4096x1792 .f32) (k : FVec Ideal S16x4096x512 .f32) (rk : FVec Ideal S8x64 .f32) : FVec Ideal S16x4096x512 .f32 :=
  shapeCast _ (mulf (broadcastInDim S16x4096x8x64 ![0, 1, 2, 3] bcast_S16x4096x8x1_S16x4096x8x64_0_1_2_3 (broadcastInDim S16x4096x8x1 ![0, 1, 2] bcast_S16x4096x8_S16x4096x8x1_0_1_2 (Host.reduceAdd (mulf (mulf (refSplit (refR s)) (refSplit k)) (broadcastInDim S16x4096x8x64 ![0, 1, 2, 3] bcast_S1x1x8x64_S16x4096x8x64_0_1_2_3 (broadcastInDim S1x1x8x64 ![2, 3] bcast_S8x64_S1x1x8x64_2_3 rk))) (constant S_ .f32 0x00000000#32) reducesTo_S16x4096x8x64_S16x4096x8_d3 h_S_))) (refSplit (refV s))) shapeCasts_S16x4096x8x64_S16x4096x512

variable (z : FVec Ideal S16x4096x3096 .f32) (s : FVec Ideal S16x4096x1792 .f32) (b : Fin 16) (n : Fin 4096)

/-- The absolute value of a negated number. -/
theorem absf_neg (x : EReal) : (FloatOps.absf (F := Ideal) (φ := .f32) (-x) : EReal) = max x (-x) := by
  rw [Ideal.absf_def, neg_neg, max_comm]

/-- A channel's head and its place in the head give the channel back. -/
theorem channel_eq (c : Fin 512) (h : c.val / 64 * 64 + c.val % 64 < 512) : (⟨c.val / 64 * 64 + c.val % 64, h⟩ : Fin 512) = c :=
  Fin.ext (by show c.val / 64 * 64 + c.val % 64 = c.val; omega)

/-- The head of a channel written as head and place. -/
theorem inHead_split (h : Fin 8) (e x : Fin 64) (hc : h.val * 64 + e.val < 512) :
    inHead ⟨h.val * 64 + e.val, hc⟩ x = ⟨h.val * 64 + x.val, by omega⟩ :=
  Fin.ext (by show (h.val * 64 + e.val) / 64 * 64 + x.val = h.val * 64 + x.val; omega)

/-- The projection read at an index. -/
theorem refZ_at (x : FVec Ideal S16x4096x1024 .f32) (g : FVec Ideal S1024 .f32) (w : FVec Ideal S1024x3096 .f32) (k : Fin 3096) :
    refZ x g w (ix3 b n k) = proj (fun j => x (ix3 b n j)) (fun j => g (ix1 j)) (fun j k => w (ix2 j k)) k := by
  unfold proj Cert.Post.norm1
  pointwise [refZ]

theorem refHeads_at (h : Fin 8) (e : Fin 64) :
    refHeads z (ix4 b h n e) = (z (ix3 b n ⟨h.val * 64 + e.val, by omega⟩) : EReal) * Ideal.ofBits .f32 0x3E000000#32 := by
  pointwise [refHeads]

/-- The queries read at an index. -/
theorem refQ_at (h : Fin 8) (l : Fin 128) : refQ z (ix4 b h n l) = query (fun k => z (ix3 b n k)) h l := by
  unfold query
  pointwise [refQ, refNo, refHeads]
  by_cases h1 : h.val < 4 <;> by_cases h2 : l.val < 64
  · rw [dif_pos h1, dif_pos h2, if_pos (by omega)]; congr 3; exact Fin.ext (by show h.val * 64 + l.val = h.val * 64 + l.val % 64; omega)
  · rw [dif_pos h1, dif_neg h2, if_neg (by omega)]
  · rw [dif_neg h1, dif_pos h2, if_neg (by omega)]
  · rw [dif_neg h1, dif_neg h2]
    refine Eq.trans ?_ (if_pos (by omega : h.val / 4 = l.val / 64)).symm
    congr 3; refine Fin.ext ?_; show (4 + (h.val - 4)) * 64 + (l.val - 64) = h.val * 64 + l.val % 64; omega

/-- The gates read at an index. -/
theorem refGate_at (bias : FVec Ideal S24 .f32) (l : Fin 128) : refGate z bias (ix3 b n l) = gate (fun k => z (ix3 b n k)) (fun k => bias (ix1 k)) l := by
  unfold gate logistic
  pointwise [refGate]

/-- The mixed rows read at an index. -/
theorem refMixed_at (mu : FVec Ideal S1792 .f32) (c : Fin 1792) :
    refMixed z mu (ix3 b n c) = mixed (tail fun k => z (ix3 b n k)) (fun c => if h : n.val = 0 then 0 else tail (fun k => z (ix3 b ⟨n.val - 1, by omega⟩ k)) c) (fun c => mu (ix1 c)) c := by
  unfold mixed tail
  pointwise [refMixed, refTail]
  by_cases h : n.val = 0
  · rw [dif_neg (by omega), dif_pos h]
    have e : (FloatOps.sitofp (F := Ideal) .f32 0#32 : EReal) = 0 := by show ((((0#32 : BitVec 32).toInt : ℝ)) : EReal) = 0; simp
    rw [e]
  · rw [dif_pos (by omega), dif_neg h]

/-- The decay's exponent read at an index. -/
theorem refDecay_at (w0 : FVec Ideal S512 .f32) (wl : FVec Ideal S64x512 .f32) (c : Fin 512) :
    refDecay s w0 wl (ix3 b n c) = decay (fun k => s (ix3 b n k)) (fun k => w0 (ix1 k)) (fun i k => wl (ix2 i k)) c := by
  unfold decay
  pointwise [refDecay, refRow]

/-- The log decay read at an index. -/
theorem refLw_at (w : FVec Ideal S16x4096x512 .f32) (c : Fin 512) : refLw w (ix3 b n c) = logDecay (w (ix3 b n c)) := by
  unfold logDecay
  pointwise [refLw, refZero]
  rw [if_neg (fun h => h rfl), absf_neg]
  rfl

/-- The learning rate read at an index. -/
theorem refRate_at (a0 : FVec Ideal S512 .f32) (al : FVec Ideal S64x512 .f32) (c : Fin 512) :
    refRate s a0 al (ix3 b n c) = rate (fun k => s (ix3 b n k)) (fun k => a0 (ix1 k)) (fun i k => al (ix2 i k)) c := by
  unfold rate logistic
  pointwise [refRate, refRow, refOne]

/-- The output gate read at an index. -/
theorem refOutGate_at (gl : FVec Ideal S128x512 .f32) (c : Fin 512) :
    refOutGate s gl (ix3 b n c) = outGate (fun k => s (ix3 b n k)) (fun i k => gl (ix2 i k)) c := by
  unfold outGate logistic
  pointwise [refOutGate]

/-- The removal key by head read at an index. -/
theorem refKk4_at (kw : FVec Ideal S512 .f32) (h : Fin 8) (e : Fin 64) :
    refKk4 s kw (ix4 b n h e) = removal (fun k => s (ix3 b n k)) (fun k => kw (ix1 k)) ⟨h.val * 64 + e.val, by omega⟩ := by
  unfold removal kOf
  simp only [inHead_split]
  pointwise [refKk4, refUnit, refSplit, refK, refRow]

/-- The removal key read at an index. -/
theorem refKk_at (kw : FVec Ideal S512 .f32) (c : Fin 512) :
    refKk s kw (ix3 b n c) = removal (fun k => s (ix3 b n k)) (fun k => kw (ix1 k)) c := by
  pointwise [refKk]
  rw [refKk4_at]
  simp only [channel_eq]

/-- The removal key times the learning rate read at an index. -/
theorem refB_at (kw : FVec Ideal S512 .f32) (a : FVec Ideal S16x4096x512 .f32) (c : Fin 512) :
    refB s kw a (ix3 b n c) = removal (fun k => s (ix3 b n k)) (fun k => kw (ix1 k)) c * a (ix3 b n c) := by
  pointwise [refB, refSplit]
  rw [refKk4_at]
  simp only [channel_eq]

/-- The replacement key read at an index. -/
theorem refK2_at (a : FVec Ideal S16x4096x512 .f32) (ka : FVec Ideal S512 .f32) (c : Fin 512) :
    refK2 s a ka (ix3 b n c) = key (fun k => s (ix3 b n k)) (fun k => a (ix3 b n k)) (fun k => ka (ix1 k)) c := by
  unfold key kOf
  pointwise [refK2, refK, refOne, refRow]

/-- The bonus read at an index. -/
theorem refBv_at (k : FVec Ideal S16x4096x512 .f32) (rk : FVec Ideal S8x64 .f32) (c : Fin 512) :
    refBv s k rk (ix3 b n c) = bonus (fun k => s (ix3 b n k)) (fun c => k (ix3 b n c)) (fun c => rk (ix2 ⟨c.val / 64, by omega⟩ ⟨c.val % 64, by omega⟩)) c := by
  unfold bonus rOf vOf inHead
  pointwise [refBv, refSplit, refR, refV]
  congr 1
  refine Finset.sum_congr rfl fun e _ => ?_
  congr 2
  have h1 : (c.val / 64 * 64 + e.val) / 64 = c.val / 64 := by omega
  have h2 : (c.val / 64 * 64 + e.val) % 64 = e.val := by omega
  congr 1 <;> (apply Fin.ext; first | exact h1.symm | exact h2.symm)

end Cert.Inproj
-- ==== Proof.Inproj.Point.lean ====
module

public import proofs.«01_k».proof.Proof.Inproj.In
public import proofs.«01_k».proof.Proof.Inproj.Ref

set_option maxRecDepth 16384

@[expose] public section

noncomputable section

/-! What a grid point leaves in its blocks, as the reference's steps over the arguments at the block's positions. -/

namespace Cert.Inproj

open Idealize.ShloMosaic Idealize.ShloMosaic.TcCoe Idealize.SL.Sem
open Cert.Kernel3Ideal Cert.Kernel3Ideal.Gen

variable (m : (ℓ : Loc nD τ sig) → Buf (Elt Ideal) ℓ)

/-- The reference's steps over the kernel's arguments: the projected rows, the mixed rows, the learning rate, the new key. -/
def zOf (c : Dev nD) : FVec Ideal Cert.Reference3Ideal.S16x4096x3096 .f32 :=
  refZ (m ((c : Thread nD τ).loc main_arg0)) (m ((c : Thread nD τ).loc main_arg1)) (m ((c : Thread nD τ).loc main_arg2))
def sOf (c : Dev nD) : FVec Ideal Cert.Reference3Ideal.S16x4096x1792 .f32 := refMixed (zOf m c) (m ((c : Thread nD τ).loc main_arg4))
def aOf (c : Dev nD) : FVec Ideal S16x4096x512 .f32 :=
  refRate (sOf m c) (m ((c : Thread nD τ).loc main_arg7)) (m ((c : Thread nD τ).loc main_arg8))
def kNew (c : Dev nD) : FVec Ideal S16x4096x512 .f32 := refK2 (sOf m c) (aOf m c) (m ((c : Thread nD τ).loc main_arg11))

variable (c : Dev nD) (t : Fin cfg0.N) (z : Fin 1) (n : Fin 512)

/-- The projected row, its columns before the gates'. -/
theorem wide_front (k : Fin 1280) :
    wide (iblk m c 0 t) (iblk m c 1 t) (iblk m c 2 t) n ⟨k.val, by omega⟩ = (zOf m c (ix3 (seqOf t) (posOf t n) ⟨k.val, by omega⟩) : EReal) := by
  unfold zOf
  rw [refZ_at]
  unfold wide proj
  simp only [in0, in1, in2_front]

/-- The columns of the recurrence. -/
theorem wide_tail (k : Fin 1792) :
    wide (iblk m c 0 t) (iblk m c 1 t) (iblk m c 2 t) n ⟨1408 + k.val, by omega⟩ = (zOf m c (ix3 (seqOf t) (posOf t n) ⟨1304 + k.val, by omega⟩) : EReal) := by
  unfold zOf
  rw [refZ_at]
  unfold wide proj
  simp only [in0, in1, in2_tail]

/-- The gates' columns, zero beyond the 24. -/
theorem wide_gate (k : Fin 128) :
    wide (iblk m c 0 t) (iblk m c 1 t) (iblk m c 2 t) n ⟨1280 + k.val, by omega⟩
      = (if h : k.val < 24 then (zOf m c (ix3 (seqOf t) (posOf t n) ⟨1280 + k.val, by omega⟩) : EReal) else 0) := by
  unfold zOf wide proj
  simp only [in2_gate]
  by_cases h : k.val < 24
  · simp only [dif_pos h]
    rw [refZ_at]
    unfold proj
    simp only [in0, in1]
  · simp only [dif_neg h, mul_zero, Finset.sum_const_zero]

/-- The logistic function at zero. -/
theorem logistic_zero : logistic (0 + 0) = Ideal.ofBits .f32 0x3F000000#32 := by
  have e : Ideal.exp (-(0 + 0)) = ((1 : ℝ) : EReal) := by
    rw [show (-(0 + 0) : EReal) = ((0 : ℝ) : EReal) by simp]
    show ((Real.exp 0 : ℝ) : EReal) = _
    rw [Real.exp_zero]
  have h2 : (1 : EReal) + ((1 : ℝ) : EReal) = ((2 : ℝ) : EReal) := by
    rw [show (1 : EReal) = ((1 : ℝ) : EReal) by norm_cast, ← EReal.coe_add]; norm_num
  unfold logistic
  rw [e, h2]
  have hh : Ideal.ofBits .f32 0x3F000000#32 = ((1 / 2 : ℝ) : EReal) := by
    simp [Ideal.ofBits, Ideal.ieee, -EReal.coe_mul]; norm_num
  rw [hh]
  unfold Ideal.div
  rw [if_neg (by norm_cast)]
  rw [show (1 : EReal) = ((1 : ℝ) : EReal) by norm_cast, ← EReal.coe_inv, ← EReal.coe_mul]
  norm_num

/-- The carried rows that open a sequence are zero. -/
theorem opening (k : Fin 1792) : (k0_pay2 (F := Ideal) : Vec Ideal S8x1792 .f32) (ix2 7 k) = (0 : EReal) := by
  pointwise [k0_pay2]

/-- The mixed row of a position. -/
theorem mixed_point : mixedRow (iblk m c 0 t) (iblk m c 1 t) (iblk m c 2 t) (iblk m c 4 t) (rows m c t) n
    = fun k => (sOf m c (ix3 (seqOf t) (posOf t n) k) : EReal) := by
  rw [mixedRow_eq]
  have hp : (fun k : Fin 1792 => if h : n.val = 0 then (rows m c t (ix2 7 k) : EReal) else wide (iblk m c 0 t) (iblk m c 1 t) (iblk m c 2 t) ⟨n.val - 1, by omega⟩ ⟨1408 + k.val, by omega⟩)
      = fun k => if h : (posOf t n).val = 0 then (0 : EReal) else tail (fun j => (zOf m c (ix3 (seqOf t) ⟨(posOf t n).val - 1, by omega⟩ j) : EReal)) k := by
    funext k
    unfold tail
    by_cases hn : n.val = 0
    · rw [dif_pos hn]
      unfold rows
      by_cases ht : t.val % 8 = 0
      · rw [if_pos ht, dif_pos (by show t.val % 8 * 512 + n.val = 0; omega)]
        exact opening k
      · rw [if_neg ht, dif_neg (by show ¬ t.val % 8 * 512 + n.val = 0; omega)]
        unfold carried
        rw [carry_at, wide_tail]
        have hs : seqOf (before t) = seqOf t := Fin.ext (by show (t.val - 1) / 8 = t.val / 8; omega)
        have hq : posOf (before t) 511 = ⟨(posOf t n).val - 1, by omega⟩ :=
          Fin.ext (by show (t.val - 1) % 8 * 512 + 511 = t.val % 8 * 512 + n.val - 1; omega)
        rw [hs, hq]
    · rw [dif_neg hn, wide_tail, dif_neg (by show ¬ t.val % 8 * 512 + n.val = 0; omega)]
      have hq : posOf t ⟨n.val - 1, by omega⟩ = ⟨(posOf t n).val - 1, by omega⟩ :=
        Fin.ext (by show t.val % 8 * 512 + (n.val - 1) = t.val % 8 * 512 + n.val - 1; omega)
      rw [hq]
  rw [hp]
  funext k
  unfold sOf
  rw [refMixed_at]
  simp only [wide_tail, in4]
  rfl

/-! The outputs, one by one. -/

theorem point14 (h : Fin 8) (l : Fin 128) :
    y14 (iblk m c 0 t) (iblk m c 1 t) (iblk m c 2 t) (ix4 z h n l) = refQ (zOf m c) (ix4 (seqOf t) h (posOf t n) l) := by
  rw [y14_at, refQ_at]
  unfold headOf query
  simp only [bQ_at]
  split
  · rw [wide_front m c t n ⟨h.val * 64 + l.val % 64, by omega⟩]
  · rfl

theorem point15 (l : Fin 128) : y15 (iblk m c 0 t) (iblk m c 1 t) (iblk m c 2 t) (ix3 z n l) = refKc (zOf m c) (ix3 (seqOf t) (posOf t n) l) := by
  rw [y15_at, wide_front m c t n ⟨512 + l.val, by omega⟩]; pointwise [refKc]
theorem point16 (l : Fin 128) : y16 (iblk m c 0 t) (iblk m c 1 t) (iblk m c 2 t) (ix3 z n l) = refVc (zOf m c) (ix3 (seqOf t) (posOf t n) l) := by
  rw [y16_at, wide_front m c t n ⟨640 + l.val, by omega⟩]; pointwise [refVc]
theorem point17 (l : Fin 128) : y17 (iblk m c 0 t) (iblk m c 1 t) (iblk m c 2 t) (ix3 z n l) = refKs (zOf m c) (ix3 (seqOf t) (posOf t n) l) := by
  rw [y17_at, wide_front m c t n ⟨768 + l.val, by omega⟩]; pointwise [refKs]
theorem point18 (l : Fin 128) : y18 (iblk m c 0 t) (iblk m c 1 t) (iblk m c 2 t) (ix3 z n l) = refVs (zOf m c) (ix3 (seqOf t) (posOf t n) l) := by
  rw [y18_at, wide_front m c t n ⟨896 + l.val, by omega⟩]; pointwise [refVs]
theorem point19 (l : Fin 128) : y19 (iblk m c 0 t) (iblk m c 1 t) (iblk m c 2 t) (ix3 z n l) = refKw (zOf m c) (ix3 (seqOf t) (posOf t n) l) := by
  rw [y19_at, wide_front m c t n ⟨1024 + l.val, by omega⟩]; pointwise [refKw]
theorem point20 (l : Fin 128) : y20 (iblk m c 0 t) (iblk m c 1 t) (iblk m c 2 t) (ix3 z n l) = refVw (zOf m c) (ix3 (seqOf t) (posOf t n) l) := by
  rw [y20_at, wide_front m c t n ⟨1152 + l.val, by omega⟩]; pointwise [refVw]

theorem point21 (l : Fin 128) :
    y21 (iblk m c 0 t) (iblk m c 1 t) (iblk m c 2 t) (iblk m c 3 t) (ix3 z n l) = refGate (zOf m c) (m ((c : Thread nD τ).loc main_arg3)) (ix3 (seqOf t) (posOf t n) l) := by
  rw [y21_at, refGate_at, wide_gate, in3]
  unfold gate
  by_cases h : l.val < 24
  · simp only [dif_pos h]
  · simp only [dif_neg h]; exact logistic_zero

theorem point22 (k : Fin 512) :
    y22 (iblk m c 0 t) (iblk m c 1 t) (iblk m c 2 t) (iblk m c 4 t) (rows m c t) (ix3 z n k) = refR (sOf m c) (ix3 (seqOf t) (posOf t n) k) := by
  rw [y22_at, mixed_point]; unfold rOf; pointwise [refR]

theorem point23 (k : Fin 512) :
    y23 (iblk m c 0 t) (iblk m c 1 t) (iblk m c 2 t) (iblk m c 4 t) (iblk m c 5 t) (iblk m c 6 t) (rows m c t) (ix3 z n k)
      = refLw (refDecay (sOf m c) (m ((c : Thread nD τ).loc main_arg5)) (m ((c : Thread nD τ).loc main_arg6))) (ix3 (seqOf t) (posOf t n) k) := by
  rw [y23_at _ _ _ _ _ _ _ _ _ _ _ (in6_lo m c t) (in6_hi m c t), mixed_point, refLw_at, refDecay_at]
  simp only [in5]

theorem rate_point (k : Fin 512) :
    rate (fun k => (sOf m c (ix3 (seqOf t) (posOf t n) k) : EReal)) (fun k => (iblk m c 7 t : Vec Ideal S1x512 .f32) (ix2 0 k))
        (fun i k => (m ((c : Thread nD τ).loc main_arg8) : Vec Ideal S64x512 .f32) (ix2 i k)) k
      = (aOf m c (ix3 (seqOf t) (posOf t n) k) : EReal) := by
  unfold aOf
  rw [refRate_at]
  simp only [in7]

theorem key_point (k : Fin 512) :
    key (fun k => (sOf m c (ix3 (seqOf t) (posOf t n) k) : EReal)) (fun k => (aOf m c (ix3 (seqOf t) (posOf t n) k) : EReal)) (fun k => (iblk m c 11 t : Vec Ideal S1x512 .f32) (ix2 0 k)) k
      = (kNew m c (ix3 (seqOf t) (posOf t n) k) : EReal) := by
  unfold kNew
  rw [refK2_at]
  simp only [in11]

theorem point24 (k : Fin 512) :
    y24 (iblk m c 0 t) (iblk m c 1 t) (iblk m c 2 t) (iblk m c 4 t) (iblk m c 7 t) (iblk m c 8 t) (iblk m c 11 t) (rows m c t) (ix3 z n k)
      = kNew m c (ix3 (seqOf t) (posOf t n) k) := by
  rw [y24_at _ _ _ _ _ _ _ _ _ _ _ _ (in8_lo m c t) (in8_hi m c t), mixed_point]
  rw [funext (rate_point m c t n)]
  exact key_point m c t n k

theorem point25 (k : Fin 512) :
    y25 (iblk m c 0 t) (iblk m c 1 t) (iblk m c 2 t) (iblk m c 4 t) (rows m c t) (ix3 z n k) = refV (sOf m c) (ix3 (seqOf t) (posOf t n) k) := by
  rw [y25_at, mixed_point]; unfold vOf; pointwise [refV]

theorem point26 (k : Fin 512) :
    y26 (iblk m c 0 t) (iblk m c 1 t) (iblk m c 2 t) (iblk m c 4 t) (iblk m c 10 t) (iblk m c 13 t) (rows m c t) (ix3 z n k)
      = refKk (sOf m c) (m ((c : Thread nD τ).loc main_arg10)) (ix3 (seqOf t) (posOf t n) k) := by
  rw [y26_at _ _ _ _ _ _ _ _ _ _ (in13 m c t), mixed_point, refKk_at]
  simp only [in10]

theorem point27 (k : Fin 512) :
    y27 (iblk m c 0 t) (iblk m c 1 t) (iblk m c 2 t) (iblk m c 4 t) (iblk m c 7 t) (iblk m c 8 t) (iblk m c 10 t) (iblk m c 13 t) (rows m c t) (ix3 z n k)
      = refB (sOf m c) (m ((c : Thread nD τ).loc main_arg10)) (aOf m c) (ix3 (seqOf t) (posOf t n) k) := by
  rw [y27_at _ _ _ _ _ _ _ _ _ _ _ _ _ (in8_lo m c t) (in8_hi m c t) (in13 m c t), mixed_point, refB_at, rate_point]
  simp only [in10]

theorem point28 (k : Fin 512) :
    y28 (iblk m c 0 t) (iblk m c 1 t) (iblk m c 2 t) (iblk m c 4 t) (iblk m c 9 t) (rows m c t) (ix3 z n k)
      = refOutGate (sOf m c) (m ((c : Thread nD τ).loc main_arg9)) (ix3 (seqOf t) (posOf t n) k) := by
  rw [y28_at, mixed_point, refOutGate_at]
  simp only [in9]

theorem point29 (k : Fin 512) :
    y29 (iblk m c 0 t) (iblk m c 1 t) (iblk m c 2 t) (iblk m c 4 t) (iblk m c 7 t) (iblk m c 8 t) (iblk m c 11 t) (iblk m c 12 t) (iblk m c 13 t) (rows m c t) (ix3 z n k)
      = refBv (sOf m c) (kNew m c) (m ((c : Thread nD τ).loc main_arg12)) (ix3 (seqOf t) (posOf t n) k) := by
  rw [y29_at _ _ _ _ _ _ _ _ _ _ _ _ _ _ (in8_lo m c t) (in8_hi m c t) (in13 m c t), mixed_point, funext (rate_point m c t n), funext (key_point m c t n), refBv_at]
  simp only [in12]

end Cert.Inproj
-- ==== Proof.Inproj.Array.lean ====
module

public import proofs.«01_k».proof.Proof.Inproj.Point

set_option maxRecDepth 16384
set_option maxHeartbeats 4000000

@[expose] public section

noncomputable section

/-! The sixteen result arrays: each block holds the reference's steps over the arguments at the block's positions. -/

namespace Cert.Inproj

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ) (c : Dev nD)

/-- Where each output window's block lies at each grid point. -/
theorem idxOut : ∀ t : Fin cfg0.N, win0_14.index t = ![t.val / 8, 0, t.val % 8, 0]
    ∧ win0_15.index t = ![t.val / 8, t.val % 8, 0]    ∧ win0_16.index t = ![t.val / 8, t.val % 8, 0]
    ∧ win0_17.index t = ![t.val / 8, t.val % 8, 0]    ∧ win0_18.index t = ![t.val / 8, t.val % 8, 0]
    ∧ win0_19.index t = ![t.val / 8, t.val % 8, 0]    ∧ win0_20.index t = ![t.val / 8, t.val % 8, 0]
    ∧ win0_21.index t = ![t.val / 8, t.val % 8, 0]    ∧ win0_22.index t = ![t.val / 8, t.val % 8, 0]
    ∧ win0_23.index t = ![t.val / 8, t.val % 8, 0]    ∧ win0_24.index t = ![t.val / 8, t.val % 8, 0]
    ∧ win0_25.index t = ![t.val / 8, t.val % 8, 0]    ∧ win0_26.index t = ![t.val / 8, t.val % 8, 0]
    ∧ win0_27.index t = ![t.val / 8, t.val % 8, 0]    ∧ win0_28.index t = ![t.val / 8, t.val % 8, 0]
    ∧ win0_29.index t = ![t.val / 8, t.val % 8, 0] :=
  (by decide +kernel : ∀ t : Fin grid0.N, _)

/-- An index of a block, by its coordinates. -/
theorem block128 (y : S1x512x128.Idx) : y = ix3 (y 0 : Fin 1) (y 1 : Fin 512) (y 2 : Fin 128) := by funext a; fin_cases a <;> rfl
theorem block512 (y : S1x512x512.Idx) : y = ix3 (y 0 : Fin 1) (y 1 : Fin 512) (y 2 : Fin 512) := by funext a; fin_cases a <;> rfl
theorem blockHeads (y : S1x8x512x128.Idx) : y = ix4 (y 0 : Fin 1) (y 1 : Fin 8) (y 2 : Fin 512) (y 3 : Fin 128) := by funext a; fin_cases a <;> rfl

/-- Two functions that agree at coordinates agree at a block's index and at the array's index over it. -/
theorem on128 {α : Type} (P : S1x512x128.Idx → α) (G : S16x4096x128.Idx → α) (t : Fin cfg0.N) (y : S1x512x128.Idx) (e : S16x4096x128.Idx)
    (hP : ∀ a b d, P (ix3 a b d) = G (ix3 (seqOf t) (posOf t b) d)) (he : e = ix3 (seqOf t) (posOf t (y 1)) (y 2)) : P y = G e :=
  ((congrArg P (block128 y)).trans (hP _ _ _)).trans (congrArg G he.symm)
theorem on512 {α : Type} (P : S1x512x512.Idx → α) (G : S16x4096x512.Idx → α) (t : Fin cfg0.N) (y : S1x512x512.Idx) (e : S16x4096x512.Idx)
    (hP : ∀ a b d, P (ix3 a b d) = G (ix3 (seqOf t) (posOf t b) d)) (he : e = ix3 (seqOf t) (posOf t (y 1)) (y 2)) : P y = G e :=
  ((congrArg P (block512 y)).trans (hP _ _ _)).trans (congrArg G he.symm)

/-- The array's index over a block's index. -/
theorem emb128 (t : Fin cfg0.N) (y : S1x512x128.Idx) :
    (win0_15.blk t).view.emb y = ix3 (seqOf t) (posOf t (y 1)) (y 2) ∧
    (win0_16.blk t).view.emb y = ix3 (seqOf t) (posOf t (y 1)) (y 2) ∧
    (win0_17.blk t).view.emb y = ix3 (seqOf t) (posOf t (y 1)) (y 2) ∧
    (win0_18.blk t).view.emb y = ix3 (seqOf t) (posOf t (y 1)) (y 2) ∧
    (win0_19.blk t).view.emb y = ix3 (seqOf t) (posOf t (y 1)) (y 2) ∧
    (win0_20.blk t).view.emb y = ix3 (seqOf t) (posOf t (y 1)) (y 2) ∧
    (win0_21.blk t).view.emb y = ix3 (seqOf t) (posOf t (y 1)) (y 2) := by
  obtain ⟨h14, h15, h16, h17, h18, h19, h20, h21, h22, h23, h24, h25, h26, h27, h28, h29⟩ := idxOut t
  unfold seqOf posOf
  refine ⟨?_, ?_, ?_, ?_, ?_, ?_, ?_⟩ <;> blk_ext [h15, h16, h17, h18, h19, h20, h21]
theorem emb512 (t : Fin cfg0.N) (y : S1x512x512.Idx) :
    (win0_22.blk t).view.emb y = ix3 (seqOf t) (posOf t (y 1)) (y 2) ∧
    (win0_23.blk t).view.emb y = ix3 (seqOf t) (posOf t (y 1)) (y 2) ∧
    (win0_24.blk t).view.emb y = ix3 (seqOf t) (posOf t (y 1)) (y 2) ∧
    (win0_25.blk t).view.emb y = ix3 (seqOf t) (posOf t (y 1)) (y 2) ∧
    (win0_26.blk t).view.emb y = ix3 (seqOf t) (posOf t (y 1)) (y 2) ∧
    (win0_27.blk t).view.emb y = ix3 (seqOf t) (posOf t (y 1)) (y 2) ∧
    (win0_28.blk t).view.emb y = ix3 (seqOf t) (posOf t (y 1)) (y 2) ∧
    (win0_29.blk t).view.emb y = ix3 (seqOf t) (posOf t (y 1)) (y 2) := by
  obtain ⟨h14, h15, h16, h17, h18, h19, h20, h21, h22, h23, h24, h25, h26, h27, h28, h29⟩ := idxOut t
  unfold seqOf posOf
  refine ⟨?_, ?_, ?_, ?_, ?_, ?_, ?_, ?_⟩ <;> blk_ext [h22, h23, h24, h25, h26, h27, h28, h29]

theorem final14 : (dats m 0 c).arrAt 14 (cfgs 0).N = refQ (zOf m c) := by
  refine (dats m 0 c).arrAt_eq_of_covers 14 _ (by decide +kernel) fun t _ y => ?_
  blk_simp
  rw [after14]
  refine Eq.trans (congrArg _ (blockHeads y)) ?_
  refine (point14 m c t _ _ _ _).trans ?_
  generalize refQ (zOf m c) = G
  have hi := (idxOut t).1
  unfold seqOf posOf
  blk_ext! [hi]
theorem final15 : (dats m 0 c).arrAt 15 (cfgs 0).N = refKc (zOf m c) :=
  (dats m 0 c).arrAt_eq_of_covers 15 _ (by decide +kernel) fun t _ y => on128 _ _ t y _ (point15 m c t) (emb128 t y).1
theorem final16 : (dats m 0 c).arrAt 16 (cfgs 0).N = refVc (zOf m c) :=
  (dats m 0 c).arrAt_eq_of_covers 16 _ (by decide +kernel) fun t _ y => on128 _ _ t y _ (point16 m c t) (emb128 t y).2.1
theorem final17 : (dats m 0 c).arrAt 17 (cfgs 0).N = refKs (zOf m c) :=
  (dats m 0 c).arrAt_eq_of_covers 17 _ (by decide +kernel) fun t _ y => on128 _ _ t y _ (point17 m c t) (emb128 t y).2.2.1
theorem final18 : (dats m 0 c).arrAt 18 (cfgs 0).N = refVs (zOf m c) :=
  (dats m 0 c).arrAt_eq_of_covers 18 _ (by decide +kernel) fun t _ y => on128 _ _ t y _ (point18 m c t) (emb128 t y).2.2.2.1
theorem final19 : (dats m 0 c).arrAt 19 (cfgs 0).N = refKw (zOf m c) :=
  (dats m 0 c).arrAt_eq_of_covers 19 _ (by decide +kernel) fun t _ y => on128 _ _ t y _ (point19 m c t) (emb128 t y).2.2.2.2.1
theorem final20 : (dats m 0 c).arrAt 20 (cfgs 0).N = refVw (zOf m c) :=
  (dats m 0 c).arrAt_eq_of_covers 20 _ (by decide +kernel) fun t _ y => on128 _ _ t y _ (point20 m c t) (emb128 t y).2.2.2.2.2.1
theorem final21 : (dats m 0 c).arrAt 21 (cfgs 0).N = refGate (zOf m c) (m ((c : Thread nD τ).loc main_arg3)) :=
  (dats m 0 c).arrAt_eq_of_covers 21 _ (by decide +kernel) fun t _ y => on128 _ _ t y _ (point21 m c t) (emb128 t y).2.2.2.2.2.2
theorem final22 : (dats m 0 c).arrAt 22 (cfgs 0).N = refR (sOf m c) :=
  (dats m 0 c).arrAt_eq_of_covers 22 _ (by decide +kernel) fun t _ y => on512 _ _ t y _ (point22 m c t) (emb512 t y).1
theorem final23 : (dats m 0 c).arrAt 23 (cfgs 0).N = refLw (refDecay (sOf m c) (m ((c : Thread nD τ).loc main_arg5)) (m ((c : Thread nD τ).loc main_arg6))) :=
  (dats m 0 c).arrAt_eq_of_covers 23 _ (by decide +kernel) fun t _ y => on512 _ _ t y _ (point23 m c t) (emb512 t y).2.1
theorem final24 : (dats m 0 c).arrAt 24 (cfgs 0).N = kNew m c :=
  (dats m 0 c).arrAt_eq_of_covers 24 _ (by decide +kernel) fun t _ y => on512 _ _ t y _ (point24 m c t) (emb512 t y).2.2.1
theorem final25 : (dats m 0 c).arrAt 25 (cfgs 0).N = refV (sOf m c) :=
  (dats m 0 c).arrAt_eq_of_covers 25 _ (by decide +kernel) fun t _ y => on512 _ _ t y _ (point25 m c t) (emb512 t y).2.2.2.1
theorem final26 : (dats m 0 c).arrAt 26 (cfgs 0).N = refKk (sOf m c) (m ((c : Thread nD τ).loc main_arg10)) :=
  (dats m 0 c).arrAt_eq_of_covers 26 _ (by decide +kernel) fun t _ y => on512 _ _ t y _ (point26 m c t) (emb512 t y).2.2.2.2.1
theorem final27 : (dats m 0 c).arrAt 27 (cfgs 0).N = refB (sOf m c) (m ((c : Thread nD τ).loc main_arg10)) (aOf m c) :=
  (dats m 0 c).arrAt_eq_of_covers 27 _ (by decide +kernel) fun t _ y => on512 _ _ t y _ (point27 m c t) (emb512 t y).2.2.2.2.2.1
theorem final28 : (dats m 0 c).arrAt 28 (cfgs 0).N = refOutGate (sOf m c) (m ((c : Thread nD τ).loc main_arg9)) :=
  (dats m 0 c).arrAt_eq_of_covers 28 _ (by decide +kernel) fun t _ y => on512 _ _ t y _ (point28 m c t) (emb512 t y).2.2.2.2.2.2.1
theorem final29 : (dats m 0 c).arrAt 29 (cfgs 0).N = refBv (sOf m c) (kNew m c) (m ((c : Thread nD τ).loc main_arg12)) :=
  (dats m 0 c).arrAt_eq_of_covers 29 _ (by decide +kernel) fun t _ y => on512 _ _ t y _ (point29 m c t) (emb512 t y).2.2.2.2.2.2.2

end Cert.Inproj
-- ==== Proof.Inproj.Values.lean ====
module

public import proofs.«01_k».proof.Proof.Inproj.Array

set_option maxRecDepth 16384
set_option maxHeartbeats 4000000

@[expose] public section

noncomputable section

/-! The kernel's run, its sixteen results by name. -/

namespace Cert.Inproj

open Idealize.ShloMosaic Idealize.ShloMosaic.TcCoe Idealize.SL.Sem
open Cert.Kernel3Ideal Cert.Kernel3Ideal.Gen

variable (m : (ℓ : Loc nD τ sig) → Buf (Elt Ideal) ℓ)

theorem run_values (ρ : Dev nD → PrngReg) : θ_run (defs (F := Ideal)) (onTc (τ := τ) (main (F := Ideal))) ⟨m, fun _ => 0, ρ⟩ (fun r => ∀ c : Dev nD,
      r.2.mem ((c.tc : Thread nD τ).loc main_v22_0) = refQ (zOf m c)
      ∧ r.2.mem ((c.tc : Thread nD τ).loc main_v22_1) = refKc (zOf m c)
      ∧ r.2.mem ((c.tc : Thread nD τ).loc main_v22_2) = refVc (zOf m c)
      ∧ r.2.mem ((c.tc : Thread nD τ).loc main_v22_3) = refKs (zOf m c)
      ∧ r.2.mem ((c.tc : Thread nD τ).loc main_v22_4) = refVs (zOf m c)
      ∧ r.2.mem ((c.tc : Thread nD τ).loc main_v22_5) = refKw (zOf m c)
      ∧ r.2.mem ((c.tc : Thread nD τ).loc main_v22_6) = refVw (zOf m c)
      ∧ r.2.mem ((c.tc : Thread nD τ).loc main_v22_7) = refGate (zOf m c) (m ((c.tc : Thread nD τ).loc main_arg3))
      ∧ r.2.mem ((c.tc : Thread nD τ).loc main_v22_8) = refR (sOf m c)
      ∧ r.2.mem ((c.tc : Thread nD τ).loc main_v22_9) = refLw (refDecay (sOf m c) (m ((c.tc : Thread nD τ).loc main_arg5)) (m ((c.tc : Thread nD τ).loc main_arg6)))
      ∧ r.2.mem ((c.tc : Thread nD τ).loc main_v22_10) = kNew m c
      ∧ r.2.mem ((c.tc : Thread nD τ).loc main_v22_11) = refV (sOf m c)
      ∧ r.2.mem ((c.tc : Thread nD τ).loc main_v22_12) = refKk (sOf m c) (m ((c.tc : Thread nD τ).loc main_arg10))
      ∧ r.2.mem ((c.tc : Thread nD τ).loc main_v22_13) = refB (sOf m c) (m ((c.tc : Thread nD τ).loc main_arg10)) (aOf m c)
      ∧ r.2.mem ((c.tc : Thread nD τ).loc main_v22_14) = refOutGate (sOf m c) (m ((c.tc : Thread nD τ).loc main_arg9))
      ∧ r.2.mem ((c.tc : Thread nD τ).loc main_v22_15) = refBv (sOf m c) (kNew m c) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨((h.2 c).1 14).trans (final14 m c), ((h.2 c).1 15).trans (final15 m c), ((h.2 c).1 16).trans (final16 m c), ((h.2 c).1 17).trans (final17 m c), ((h.2 c).1 18).trans (final18 m c), ((h.2 c).1 19).trans (final19 m c), ((h.2 c).1 20).trans (final20 m c), ((h.2 c).1 21).trans (final21 m c), ((h.2 c).1 22).trans (final22 m c), ((h.2 c).1 23).trans (final23 m c), ((h.2 c).1 24).trans (final24 m c), ((h.2 c).1 25).trans (final25 m c), ((h.2 c).1 26).trans (final26 m c), ((h.2 c).1 27).trans (final27 m c), ((h.2 c).1 28).trans (final28 m c), ((h.2 c).1 29).trans (final29 m c), h.1 c⟩)
    (θ_run_and (frame_of m ρ (dats m) (A_eq m) (run_main m ρ)) (run_main m ρ))

end Cert.Inproj
-- ==== Proof.Inproj.RefRun.lean ====
module

public import proofs.«01_k».proof.Proof.Inproj.Ref

set_option maxRecDepth 16384

@[expose] public section

noncomputable section

/-! The reference's run, its results by name. -/

namespace Cert.Inproj

open Idealize.ShloMosaic Idealize.ShloMosaic.TcCoe Idealize.SL.Sem
open Cert.Reference3Ideal Cert.Reference3Ideal.Gen

variable (m : (ℓ : Loc nD τ sig) → Buf (Elt Ideal) ℓ)

/-- The steps over the reference's own arguments. -/
def refProj (c : Dev nD) : FVec Ideal S16x4096x3096 .f32 := refZ (m ((c.tc : Thread nD τ).loc main_arg0)) (m ((c.tc : Thread nD τ).loc main_arg1)) (m ((c.tc : Thread nD τ).loc main_arg2))
def refMix (c : Dev nD) : FVec Ideal S16x4096x1792 .f32 := refMixed (refProj m c) (m ((c.tc : Thread nD τ).loc main_arg4))
def refLr (c : Dev nD) : FVec Ideal S16x4096x512 .f32 := refRate (refMix m c) (m ((c.tc : Thread nD τ).loc main_arg7)) (m ((c.tc : Thread nD τ).loc main_arg8))

theorem run_reference (ρ : Dev nD → PrngReg) : θ_run (defs (F := Ideal)) (onTc (τ := τ) (main (F := Ideal))) ⟨m, fun _ => 0, ρ⟩ (fun r => ∀ c : Dev nD,
      r.2.mem ((c.tc : Thread nD τ).loc main_v117) = refQ (refProj m c)
      ∧ r.2.mem ((c.tc : Thread nD τ).loc main_v15) = refKc (refProj m c)
      ∧ r.2.mem ((c.tc : Thread nD τ).loc main_v16) = refVc (refProj m c)
      ∧ r.2.mem ((c.tc : Thread nD τ).loc main_v118) = refKs (refProj m c)
      ∧ r.2.mem ((c.tc : Thread nD τ).loc main_v119) = refVs (refProj m c)
      ∧ r.2.mem ((c.tc : Thread nD τ).loc main_v120) = refKw (refProj m c)
      ∧ r.2.mem ((c.tc : Thread nD τ).loc main_v121) = refVw (refProj m c)
      ∧ r.2.mem ((c.tc : Thread nD τ).loc main_v116) = refGate (refProj m c) (m ((c.tc : Thread nD τ).loc main_arg3))
      ∧ r.2.mem ((c.tc : Thread nD τ).loc main_v43) = refR (refMix m c)
      ∧ r.2.mem ((c.tc : Thread nD τ).loc main_v123) = refLw (refDecay (refMix m c) (m ((c.tc : Thread nD τ).loc main_arg5)) (m ((c.tc : Thread nD τ).loc main_arg6)))
      ∧ r.2.mem ((c.tc : Thread nD τ).loc main_v95) = refK2 (refMix m c) (refLr m c) (m ((c.tc : Thread nD τ).loc main_arg11))
      ∧ r.2.mem ((c.tc : Thread nD τ).loc main_v45) = refV (refMix m c)
      ∧ r.2.mem ((c.tc : Thread nD τ).loc main_v124) = refKk (refMix m c) (m ((c.tc : Thread nD τ).loc main_arg10))
      ∧ r.2.mem ((c.tc : Thread nD τ).loc main_v125) = refB (refMix m c) (m ((c.tc : Thread nD τ).loc main_arg10)) (refLr m c)
      ∧ r.2.mem ((c.tc : Thread nD τ).loc main_v75) = refOutGate (refMix m c) (m ((c.tc : Thread nD τ).loc main_arg9))
      ∧ r.2.mem ((c.tc : Thread nD τ).loc main_v126) = refBv (refMix m c) (refK2 (refMix m c) (refLr m c) (m ((c.tc : Thread nD τ).loc main_arg11))) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => by
    obtain ⟨h0, h1, h2, h3, h4, h5, h6, h7, h8, h9, h10, h11, h12, h13, h14, h15, ha⟩ := h c
    exact ⟨h0.trans rfl, h1.trans rfl, h2.trans rfl, h3.trans rfl, h4.trans rfl, h5.trans rfl, h6.trans rfl, h7.trans rfl, h8.trans rfl, h9.trans rfl, h10.trans rfl, h11.trans rfl, h12.trans rfl, h13.trans rfl, h14.trans rfl, h15.trans rfl, ha⟩)
    (Cert.Reference3Ideal.Value.run (F := Ideal) m ρ)

end Cert.Inproj
-- ==== Proof.lean ====
module

public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel.Frame
public import proofs.«01_k».proof.Proof.Gen.KernelIdeal.Frame
public import proofs.«01_k».proof.Proof.Gen.ReferenceIdeal.Run
public import proofs.«01_k».proof.Proof.Post.Array
public import proofs.«01_k».proof.Proof.Inproj.Values
public import proofs.«01_k».proof.Proof.Inproj.RefRun
public import Idealize.ShloMosaic.Adequacy
public import Idealize.ShloMosaic.Init
public import Idealize.ShloMosaic.Lib.Quiescent

@[expose] public section

set_option maxRecDepth 16384
set_option maxHeartbeats 2000000

noncomputable section

namespace Cert.Proof

open Idealize.ShloMosaic Idealize.SL.Sem

/-- The recurrence's reference runs, leaves its arguments and its counters as they were. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The second reference runs, leaves its arguments and its counters as they were. -/
theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The layer's end and its reference return the same array. -/
theorem algebraic_Kernel2Ideal_Reference2Ideal : algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  obtain ⟨h0, h1, h2, h3, h4, h5, h6, h7, h8, h9, h10, h11⟩ := hagree c
  refine (h c).1.trans ((Cert.Post.res_eq m' c).trans ?_)
  rw [h0, h1, h2, h3, h4, h5, h6, h7, h8, h9, h10, h11]
  exact (Cert.Post.final m c).symm

/-- The idealized input projection runs, leaves its arguments and its counters as they were. -/
theorem quiescent_Kernel3Ideal : quiescent_Kernel3Ideal := fun m ρ _ => Cert.Inproj.frame (F := Ideal) m ρ

/-- The input projection's reference runs, leaves its arguments and its counters as they were. -/
theorem quiescent_Reference3Ideal : quiescent_Reference3Ideal := fun m ρ _ =>
  (θ_run Cert.Reference3Ideal.defs _ _).mono
    (fun r h => ⟨fun c => (h c).2.2.2.2.2.2.2.2.2.2.2.2.2.2.2.2, sem_eq_zero_of_no_sems (by decide) r.2⟩)
    (Cert.Inproj.run_reference m ρ)

/-- The input projection and its reference return the same sixteen arrays. -/
theorem algebraic_Kernel3Ideal_Reference3Ideal : algebraic_Kernel3Ideal_Reference3Ideal := by
  intro m ρ m' ρ' _ hagree
  refine ⟨_, _, _, _, _, _, _, _, _, _, _, _, _, _, _, _, Cert.Inproj.run_values m ρ, ?_⟩
  refine (θ_run Cert.Reference3Ideal.defs _ _).mono (fun _ h c => ?_) (Cert.Inproj.run_reference m' ρ')
  have hc := h c
  obtain ⟨h0, h1, h2, h3, h4, h5, h6, h7, h8, h9, h10, h11, h12⟩ := hagree c
  have hz : Cert.Inproj.refProj m' c = Cert.Inproj.zOf m c := by
    unfold Cert.Inproj.refProj Cert.Inproj.zOf; rw [h0, h1, h2]
  have hs : Cert.Inproj.refMix m' c = Cert.Inproj.sOf m c := by
    unfold Cert.Inproj.refMix Cert.Inproj.sOf; rw [hz, h4]
  have ha : Cert.Inproj.refLr m' c = Cert.Inproj.aOf m c := by
    unfold Cert.Inproj.refLr Cert.Inproj.aOf; rw [hs, h7, h8]
  have hk : Cert.Inproj.refK2 (Cert.Inproj.refMix m' c) (Cert.Inproj.refLr m' c) (m' ((c.tc : Thread Cert.Reference3Ideal.nD Cert.Reference3Ideal.τ).loc Cert.Reference3Ideal.main_arg11)) = Cert.Inproj.kNew m c := by
    unfold Cert.Inproj.kNew; rw [hs, ha, h11]
  obtain ⟨e0, e1, e2, e3, e4, e5, e6, e7, e8, e9, e10, e11, e12, e13, e14, e15, e⟩ := hc
  rw [hk] at e10 e15
  rw [hz] at e0 e1 e2 e3 e4 e5 e6 e7
  rw [hs] at e8 e9 e11 e12 e13 e14 e15
  rw [ha] at e13
  rw [h3] at e7
  rw [h5, h6] at e9
  rw [h10] at e12 e13
  rw [h9] at e14
  rw [h12] at e15
  exact ⟨e0, e1, e2, e3, e4, e5, e6, e7, e8, e9, e10, e11, e12, e13, e14, e15, e⟩
theorem claim : Cert.Claim := ⟨Cert.Kernel2.Gen.facts, Cert.Kernel2Ideal.Gen.facts, Cert.Reference2Ideal.Gen.facts,
  Cert.Kernel3Ideal.Gen.facts, Cert.Reference3Ideal.Gen.facts,
  Cert.Kernel.Gen.facts, Cert.KernelIdeal.Gen.facts, Cert.ReferenceIdeal.Gen.facts,
  fun m ρ _ => Cert.Kernel2.Gen.frame m ρ, fun m ρ _ => Cert.Kernel2Ideal.Gen.frame m ρ, quiescent_Reference2Ideal,
  quiescent_Kernel3Ideal, quiescent_Reference3Ideal,
  fun m ρ _ => Cert.Kernel.Gen.frame m ρ, fun m ρ _ => Cert.KernelIdeal.Gen.frame m ρ, quiescent_ReferenceIdeal,
  (trivial : preserves_Kernel2_Kernel2Ideal), algebraic_Kernel2Ideal_Reference2Ideal,
  algebraic_Kernel3Ideal_Reference3Ideal, (trivial : preserves_Kernel_KernelIdeal)⟩

end Cert.Proof

end
